-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfRefIdeal (m : (ℓ : Loc Cert.ConfRefIdeal.nD Cert.ConfRefIdeal.τ Cert.ConfRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterRefIdeal (m : (ℓ : Loc Cert.FilterRefIdeal.nD Cert.FilterRefIdeal.τ Cert.FilterRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5)
      ∧ r.2.mem ((c.tc : Thread Cert.Conf.nD Cert.Conf.τ).loc Cert.Conf.main_arg6) = m ((c.tc : Thread Cert.Conf.nD Cert.Conf.τ).loc Cert.Conf.main_arg6)
      ∧ r.2.mem ((c.tc : Thread Cert.Conf.nD Cert.Conf.τ).loc Cert.Conf.main_arg7) = m ((c.tc : Thread Cert.Conf.nD Cert.Conf.τ).loc Cert.Conf.main_arg7))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
      ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
      ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5)
      ∧ r.2.mem ((c.tc : Thread Cert.ConfRefIdeal.nD Cert.ConfRefIdeal.τ).loc Cert.ConfRefIdeal.main_arg6) = m ((c.tc : Thread Cert.ConfRefIdeal.nD Cert.ConfRefIdeal.τ).loc Cert.ConfRefIdeal.main_arg6)
      ∧ r.2.mem ((c.tc : Thread Cert.ConfRefIdeal.nD Cert.ConfRefIdeal.τ).loc Cert.ConfRefIdeal.main_arg7) = m ((c.tc : Thread Cert.ConfRefIdeal.nD Cert.ConfRefIdeal.τ).loc Cert.ConfRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5))
      ∧ r.2.sem = fun _ => 0)

def quiescent_FilterRefIdeal [hFilterRefIdeal : Cert.FilterRefIdeal.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v8)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v8) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v29) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Conf_ConfIdeal : Prop :=
  True

def algebraic_ConfIdeal_ConfRefIdeal [hConfIdeal : Cert.ConfIdeal.Facts] [hConfRefIdeal : Cert.ConfRefIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)
      ∧ m' ((c.tc : Thread Cert.ConfRefIdeal.nD Cert.ConfRefIdeal.τ).loc Cert.ConfRefIdeal.main_arg6) = m ((c.tc : Thread Cert.ConfIdeal.nD Cert.ConfIdeal.τ).loc Cert.ConfIdeal.main_arg6)
      ∧ m' ((c.tc : Thread Cert.ConfRefIdeal.nD Cert.ConfRefIdeal.τ).loc Cert.ConfRefIdeal.main_arg7) = m ((c.tc : Thread Cert.ConfIdeal.nD Cert.ConfIdeal.τ).loc Cert.ConfIdeal.main_arg7)) →
    ∃ (v0 : (c : Dev Cert.ConfIdeal.nD) → Buf (Elt Ideal) ((c.tc : Thread Cert.ConfIdeal.nD Cert.ConfIdeal.τ).loc Cert.ConfIdeal.main_v15)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v15) = v0 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
          ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
          ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v253) = v0 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5)
          ∧ r.2.mem ((c.tc : Thread Cert.ConfRefIdeal.nD Cert.ConfRefIdeal.τ).loc Cert.ConfRefIdeal.main_arg6) = m' ((c.tc : Thread Cert.ConfRefIdeal.nD Cert.ConfRefIdeal.τ).loc Cert.ConfRefIdeal.main_arg6)
          ∧ r.2.mem ((c.tc : Thread Cert.ConfRefIdeal.nD Cert.ConfRefIdeal.τ).loc Cert.ConfRefIdeal.main_arg7) = m' ((c.tc : Thread Cert.ConfRefIdeal.nD Cert.ConfRefIdeal.τ).loc Cert.ConfRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v6_0)) (v1 : (c : Dev Cert.ShortIdeal.nD) → Buf (Elt Ideal) ((c.tc : Thread Cert.ShortIdeal.nD Cert.ShortIdeal.τ).loc Cert.ShortIdeal.main_v6_1)) (v2 : (c : Dev Cert.ShortIdeal.nD) → Buf (Elt Ideal) ((c.tc : Thread Cert.ShortIdeal.nD Cert.ShortIdeal.τ).loc Cert.ShortIdeal.main_v6_2)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v6_0) = v0 c
          ∧ r.2.mem ((c.tc : Thread Cert.ShortIdeal.nD Cert.ShortIdeal.τ).loc Cert.ShortIdeal.main_v6_1) = v1 c
          ∧ r.2.mem ((c.tc : Thread Cert.ShortIdeal.nD Cert.ShortIdeal.τ).loc Cert.ShortIdeal.main_v6_2) = v2 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v29) = v0 c
          ∧ r.2.mem ((c.tc : Thread Cert.ShortRefIdeal.nD Cert.ShortRefIdeal.τ).loc Cert.ShortRefIdeal.main_v32) = v1 c
          ∧ r.2.mem ((c.tc : Thread Cert.ShortRefIdeal.nD Cert.ShortRefIdeal.τ).loc Cert.ShortRefIdeal.main_v26) = v2 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2))

def preserves_Filter_FilterIdeal : Prop :=
  True

def algebraic_FilterIdeal_FilterRefIdeal [hFilterIdeal : Cert.FilterIdeal.Facts] [hFilterRefIdeal : Cert.FilterRefIdeal.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterRefIdeal.nD Cert.FilterRefIdeal.τ Cert.FilterRefIdeal.sig) → Buf (Elt Ideal) ℓ) (g' : Dev Cert.FilterRefIdeal.nD → PrngReg), Pre_FilterIdeal m →
    (∀ c : Dev Cert.FilterIdeal.nD,
      m' ((c.tc : Thread Cert.FilterRefIdeal.nD Cert.FilterRefIdeal.τ).loc Cert.FilterRefIdeal.main_arg0) = m ((c.tc : Thread Cert.FilterIdeal.nD Cert.FilterIdeal.τ).loc Cert.FilterIdeal.main_arg0)
      ∧ m' ((c.tc : Thread Cert.FilterRefIdeal.nD Cert.FilterRefIdeal.τ).loc Cert.FilterRefIdeal.main_arg1) = m ((c.tc : Thread Cert.FilterIdeal.nD Cert.FilterIdeal.τ).loc Cert.FilterIdeal.main_arg1)
      ∧ m' ((c.tc : Thread Cert.FilterRefIdeal.nD Cert.FilterRefIdeal.τ).loc Cert.FilterRefIdeal.main_arg2) = m ((c.tc : Thread Cert.FilterIdeal.nD Cert.FilterIdeal.τ).loc Cert.FilterIdeal.main_arg2)
      ∧ m' ((c.tc : Thread Cert.FilterRefIdeal.nD Cert.FilterRefIdeal.τ).loc Cert.FilterRefIdeal.main_arg3) = m ((c.tc : Thread Cert.FilterIdeal.nD Cert.FilterIdeal.τ).loc Cert.FilterIdeal.main_arg3)
      ∧ m' ((c.tc : Thread Cert.FilterRefIdeal.nD Cert.FilterRefIdeal.τ).loc Cert.FilterRefIdeal.main_arg4) = m ((c.tc : Thread Cert.FilterIdeal.nD Cert.FilterIdeal.τ).loc Cert.FilterIdeal.main_arg4)
      ∧ m' ((c.tc : Thread Cert.FilterRefIdeal.nD Cert.FilterRefIdeal.τ).loc Cert.FilterRefIdeal.main_arg5) = m ((c.tc : Thread Cert.FilterIdeal.nD Cert.FilterIdeal.τ).loc Cert.FilterIdeal.main_arg5)) →
    ∃ (v0 : (c : Dev Cert.FilterIdeal.nD) → Buf (Elt Ideal) ((c.tc : Thread Cert.FilterIdeal.nD Cert.FilterIdeal.τ).loc Cert.FilterIdeal.main_v43_0)) (v1 : (c : Dev Cert.FilterIdeal.nD) → Buf (Elt Ideal) ((c.tc : Thread Cert.FilterIdeal.nD Cert.FilterIdeal.τ).loc Cert.FilterIdeal.main_v50)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v43_0) = v0 c
          ∧ r.2.mem ((c.tc : Thread Cert.FilterIdeal.nD Cert.FilterIdeal.τ).loc Cert.FilterIdeal.main_v50) = v1 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5))
      ∧ θ_run (Cert.FilterRefIdeal.defs (F := Ideal)) (onTc (τ := Cert.FilterRefIdeal.τ) (Cert.FilterRefIdeal.main (F := Ideal))) ⟨m', fun _ => 0, g'⟩ (fun r => ∀ c : Dev Cert.FilterRefIdeal.nD,
          r.2.mem ((c.tc : Thread Cert.FilterRefIdeal.nD Cert.FilterRefIdeal.τ).loc Cert.FilterRefIdeal.main_v77) = v0 c
          ∧ r.2.mem ((c.tc : Thread Cert.FilterRefIdeal.nD Cert.FilterRefIdeal.τ).loc Cert.FilterRefIdeal.main_v85) = v1 c
          ∧ r.2.mem ((c.tc : Thread Cert.FilterRefIdeal.nD Cert.FilterRefIdeal.τ).loc Cert.FilterRefIdeal.main_arg0) = m' ((c.tc : Thread Cert.FilterRefIdeal.nD Cert.FilterRefIdeal.τ).loc Cert.FilterRefIdeal.main_arg0)
          ∧ r.2.mem ((c.tc : Thread Cert.FilterRefIdeal.nD Cert.FilterRefIdeal.τ).loc Cert.FilterRefIdeal.main_arg1) = m' ((c.tc : Thread Cert.FilterRefIdeal.nD Cert.FilterRefIdeal.τ).loc Cert.FilterRefIdeal.main_arg1)
          ∧ r.2.mem ((c.tc : Thread Cert.FilterRefIdeal.nD Cert.FilterRefIdeal.τ).loc Cert.FilterRefIdeal.main_arg2) = m' ((c.tc : Thread Cert.FilterRefIdeal.nD Cert.FilterRefIdeal.τ).loc Cert.FilterRefIdeal.main_arg2)
          ∧ r.2.mem ((c.tc : Thread Cert.FilterRefIdeal.nD Cert.FilterRefIdeal.τ).loc Cert.FilterRefIdeal.main_arg3) = m' ((c.tc : Thread Cert.FilterRefIdeal.nD Cert.FilterRefIdeal.τ).loc Cert.FilterRefIdeal.main_arg3)
          ∧ r.2.mem ((c.tc : Thread Cert.FilterRefIdeal.nD Cert.FilterRefIdeal.τ).loc Cert.FilterRefIdeal.main_arg4) = m' ((c.tc : Thread Cert.FilterRefIdeal.nD Cert.FilterRefIdeal.τ).loc Cert.FilterRefIdeal.main_arg4)
          ∧ r.2.mem ((c.tc : Thread Cert.FilterRefIdeal.nD Cert.FilterRefIdeal.τ).loc Cert.FilterRefIdeal.main_arg5) = m' ((c.tc : Thread Cert.FilterRefIdeal.nD Cert.FilterRefIdeal.τ).loc Cert.FilterRefIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v6)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v15) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v6_0)) (v1 : (c : Dev Cert.RouterIdeal.nD) → Buf (Elt Ideal) ((c.tc : Thread Cert.RouterIdeal.nD Cert.RouterIdeal.τ).loc Cert.RouterIdeal.main_v6_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v6_0) = v0 c
          ∧ r.2.mem ((c.tc : Thread Cert.RouterIdeal.nD Cert.RouterIdeal.τ).loc Cert.RouterIdeal.main_v6_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v29) = v0 c
          ∧ r.2.mem ((c.tc : Thread Cert.RouterRefIdeal.nD Cert.RouterRefIdeal.τ).loc Cert.RouterRefIdeal.main_v30) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def Claim : Prop :=
  ∃ (hFfn : Cert.Ffn.Facts) (hFfnIdeal : Cert.FfnIdeal.Facts) (hFfnRefIdeal : Cert.FfnRefIdeal.Facts) (hGlu : Cert.Glu.Facts) (hGluIdeal : Cert.GluIdeal.Facts) (hGluRefIdeal : Cert.GluRefIdeal.Facts) (hConf : Cert.Conf.Facts) (hConfIdeal : Cert.ConfIdeal.Facts) (hConfRefIdeal : Cert.ConfRefIdeal.Facts) (hProj : Cert.Proj.Facts) (hProjIdeal : Cert.ProjIdeal.Facts) (hProjRefIdeal : Cert.ProjRefIdeal.Facts) (hShort : Cert.Short.Facts) (hShortIdeal : Cert.ShortIdeal.Facts) (hShortRefIdeal : Cert.ShortRefIdeal.Facts) (hFilter : Cert.Filter.Facts) (hFilterIdeal : Cert.FilterIdeal.Facts) (hFilterRefIdeal : Cert.FilterRefIdeal.Facts) (hTail : Cert.Tail.Facts) (hTailIdeal : Cert.TailIdeal.Facts) (hTailRefIdeal : Cert.TailRefIdeal.Facts) (hRouter : Cert.Router.Facts) (hRouterIdeal : Cert.RouterIdeal.Facts) (hRouterRefIdeal : Cert.RouterRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Glu (hGlu := hGlu)
    ∧ quiescent_GluIdeal (hGluIdeal := hGluIdeal)
    ∧ quiescent_GluRefIdeal (hGluRefIdeal := hGluRefIdeal)
    ∧ quiescent_Conf (hConf := hConf)
    ∧ quiescent_ConfIdeal (hConfIdeal := hConfIdeal)
    ∧ quiescent_ConfRefIdeal (hConfRefIdeal := hConfRefIdeal)
    ∧ quiescent_Proj (hProj := hProj)
    ∧ quiescent_ProjIdeal (hProjIdeal := hProjIdeal)
    ∧ quiescent_ProjRefIdeal (hProjRefIdeal := hProjRefIdeal)
    ∧ quiescent_Short (hShort := hShort)
    ∧ quiescent_ShortIdeal (hShortIdeal := hShortIdeal)
    ∧ quiescent_ShortRefIdeal (hShortRefIdeal := hShortRefIdeal)
    ∧ quiescent_Filter (hFilter := hFilter)
    ∧ quiescent_FilterIdeal (hFilterIdeal := hFilterIdeal)
    ∧ quiescent_FilterRefIdeal (hFilterRefIdeal := hFilterRefIdeal)
    ∧ quiescent_Tail (hTail := hTail)
    ∧ quiescent_TailIdeal (hTailIdeal := hTailIdeal)
    ∧ quiescent_TailRefIdeal (hTailRefIdeal := hTailRefIdeal)
    ∧ quiescent_Router (hRouter := hRouter)
    ∧ quiescent_RouterIdeal (hRouterIdeal := hRouterIdeal)
    ∧ quiescent_RouterRefIdeal (hRouterRefIdeal := hRouterRefIdeal)
    ∧ preserves_Ffn_FfnIdeal
    ∧ algebraic_FfnIdeal_FfnRefIdeal (hFfnIdeal := hFfnIdeal) (hFfnRefIdeal := hFfnRefIdeal)
    ∧ preserves_Glu_GluIdeal
    ∧ algebraic_GluIdeal_GluRefIdeal (hGluIdeal := hGluIdeal) (hGluRefIdeal := hGluRefIdeal)
    ∧ preserves_Conf_ConfIdeal
    ∧ algebraic_ConfIdeal_ConfRefIdeal (hConfIdeal := hConfIdeal) (hConfRefIdeal := hConfRefIdeal)
    ∧ preserves_Proj_ProjIdeal
    ∧ algebraic_ProjIdeal_ProjRefIdeal (hProjIdeal := hProjIdeal) (hProjRefIdeal := hProjRefIdeal)
    ∧ preserves_Short_ShortIdeal
    ∧ algebraic_ShortIdeal_ShortRefIdeal (hShortIdeal := hShortIdeal) (hShortRefIdeal := hShortRefIdeal)
    ∧ preserves_Filter_FilterIdeal
    ∧ algebraic_FilterIdeal_FilterRefIdeal (hFilterIdeal := hFilterIdeal) (hFilterRefIdeal := hFilterRefIdeal)
    ∧ preserves_Tail_TailIdeal
    ∧ algebraic_TailIdeal_TailRefIdeal (hTailIdeal := hTailIdeal) (hTailRefIdeal := hTailRefIdeal)
    ∧ preserves_Router_RouterIdeal
    ∧ algebraic_RouterIdeal_RouterRefIdeal (hRouterIdeal := hRouterIdeal) (hRouterRefIdeal := hRouterRefIdeal)
-- ==== Ffn.lean ====
abbrev S16x4368x1024 : Shape := ⟨3, ![16, 4368, 1024]⟩
abbrev S16x4368x128 : Shape := ⟨3, ![16, 4368, 128]⟩
abbrev S2x16x1024x2816 : Shape := ⟨4, ![2, 16, 1024, 2816]⟩
abbrev S2x16x2816x1024 : Shape := ⟨4, ![2, 16, 2816, 1024]⟩
abbrev S16x4608x1024 : Shape := ⟨3, ![16, 4608, 1024]⟩
abbrev S1x512x1024 : Shape := ⟨3, ![1, 512, 1024]⟩
abbrev S1x512x128 : Shape := ⟨3, ![1, 512, 128]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩
abbrev S1x512x1 : Shape := ⟨3, ![1, 512, 1]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16x4368x1024, .bf16⟩
  | .hbm, ⟨1, _⟩ => ⟨S16x4368x128, .f32⟩
  | .hbm, ⟨2, _⟩ => ⟨S2x16x1024x2816, .f32⟩
  | .hbm, ⟨3, _⟩ => ⟨S2x16x1024x2816, .f32⟩
  | .hbm, ⟨4, _⟩ => ⟨S2x16x2816x1024, .f32⟩
  | .hbm, ⟨5, _⟩ => ⟨S2x16x1024x2816, .bf16⟩
  | .hbm, ⟨6, _⟩ => ⟨S2x16x1024x2816, .bf16⟩
  | .hbm, ⟨7, _⟩ => ⟨S2x16x2816x1024, .bf16⟩
  | .hbm, ⟨8, _⟩ => ⟨S16x4608x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .f32⟩
  | .local _ .vmem, ⟨3, _⟩ => ⟨S1x512x128, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x1024x2816, .bf16⟩
  | .local _ .vmem, ⟨8, _⟩ => ⟨S1x1x2816x1024, .bf16⟩
  | .local _ .vmem, ⟨9, _⟩ => ⟨S1x1x2816x1024, .bf16⟩
  | .local _ .vmem, ⟨10, _⟩ => ⟨S1x512x1024, .bf16⟩
  | .local _ .vmem, ⟨11, _⟩ => ⟨S1x512x1024, .bf16⟩
  | _, _ => ⟨S16x4368x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2816x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S16x4368x1024 : Shape := ⟨3, ![16, 4368, 1024]⟩
abbrev S16x4368x128 : Shape := ⟨3, ![16, 4368, 128]⟩
abbrev S2x16x1024x2816 : Shape := ⟨4, ![2, 16, 1024, 2816]⟩
abbrev S2x16x2816x1024 : Shape := ⟨4, ![2, 16, 2816, 1024]⟩
abbrev S16x4096x1024 : Shape := ⟨3, ![16, 4096, 1024]⟩
abbrev S1x16x1024x2816 : Shape := ⟨4, ![1, 16, 1024, 2816]⟩
abbrev S16x1024x2816 : Shape := ⟨3, ![16, 1024, 2816]⟩
abbrev S16x4096x2816 : Shape := ⟨3, ![16, 4096, 2816]⟩
abbrev S_ : Shape := ⟨0, ![]⟩
abbrev S1x16x2816x1024 : Shape := ⟨4, ![1, 16, 2816, 1024]⟩
abbrev S16x2816x1024 : Shape := ⟨3, ![16, 2816, 1024]⟩
abbrev S16x4096x1 : Shape := ⟨3, ![16, 4096, 1]⟩
abbrev S16x4608x1024 : Shape := ⟨3, ![16, 4608, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16x4368x1024, .bf16⟩
  | .hbm, ⟨1, _⟩ => ⟨S16x4368x128, .f32⟩
  | .hbm, ⟨2, _⟩ => ⟨S2x16x1024x2816, .f32⟩
  | .hbm, ⟨3, _⟩ => ⟨S2x16x1024x2816, .f32⟩
  | .hbm, ⟨4, _⟩ => ⟨S2x16x2816x1024, .f32⟩
  | .hbm, ⟨5, _⟩ => ⟨S16x4096x1024, .bf16⟩
  | .hbm, ⟨6, _⟩ => ⟨S16x4096x1024, .f32⟩
  | .hbm, ⟨7, _⟩ => ⟨S1x16x1024x2816, .f32⟩
  | .hbm, ⟨8, _⟩ => ⟨S16x1024x2816, .f32⟩
  | .hbm, ⟨9, _⟩ => ⟨S16x4096x2816, .f32⟩
  | .hbm, ⟨10, _⟩ => ⟨S16x4096x2816, .f32⟩
  | .hbm, ⟨11, _⟩ => ⟨S16x4096x2816, .f32⟩
  | .hbm, ⟨12, _⟩ => ⟨S_, .f32⟩
  | .hbm, ⟨13, _⟩ => ⟨S16x4096x2816, .f32⟩
  | .hbm, ⟨14, _⟩ => ⟨S16x4096x2816, .f32⟩
  | .hbm, ⟨15, _⟩ => ⟨S_, .f32⟩
  | .hbm, ⟨16, _⟩ => ⟨S16x4096x2816, .f32⟩
  | .hbm, ⟨17, _⟩ => ⟨S16x4096x2816, .f32⟩
  | .hbm, ⟨18, _⟩ => ⟨S16x4096x2816, .f32⟩
  | .hbm, ⟨19, _⟩ => ⟨S1x16x1024x2816, .f32⟩
  | .hbm, ⟨20, _⟩ => ⟨S16x1024x2816, .f32⟩
  | .hbm, ⟨21, _⟩ => ⟨S16x4096x2816, .f32⟩
  | .hbm, ⟨22, _⟩ => ⟨S16x4096x2816, .f32⟩
  | .hbm, ⟨23, _⟩ => ⟨S1x16x2816x1024, .f32⟩
  | .hbm, ⟨24, _⟩ => ⟨S16x2816x1024, .f32⟩
  | .hbm, ⟨25, _⟩ => ⟨S16x4096x1024, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S_, .i32⟩
  | .hbm, ⟨30, _⟩ => ⟨S_, .f32⟩
  | .hbm, ⟨31, _⟩ => ⟨S16x4608x1024, .f32⟩
  | .hbm, ⟨32, _⟩ => ⟨S16x4608x1024, .bf16⟩
  | _, _ => ⟨S16x4368x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Glu.lean ====
abbrev S32768x1024 : Shape := ⟨2, ![32768, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S1x1024x2048, .bf16⟩
  | .hbm, ⟨7, _⟩ => ⟨S1024x2048, .bf16⟩
  | .hbm, ⟨8, _⟩ => ⟨S2048, .f32⟩
  | .hbm, ⟨9, _⟩ => ⟨S1x1024, .f32⟩
  | .hbm, ⟨10, _⟩ => ⟨S1x2048, .f32⟩
  | .hbm, ⟨11, _⟩ => ⟨S1x2048, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluRefIdeal.lean ====
abbrev S32768x1024 : Shape := ⟨2, ![32768, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2048 : Shape := ⟨2, ![1024, 2048]⟩
abbrev S32768x2048 : Shape := ⟨2, ![32768, 2048]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x2048, .f32⟩
  | .hbm, ⟨23, _⟩ => ⟨S32768x2048, .f32⟩
  | .hbm, ⟨24, _⟩ => ⟨S2048, .f32⟩
  | .hbm, ⟨25, _⟩ => ⟨S1x2048, .f32⟩
  | .hbm, ⟨26, _⟩ => ⟨S32768x2048, .f32⟩
  | .hbm, ⟨27, _⟩ => ⟨S32768x2048, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Conf.lean ====
abbrev S4x8192x1024 : Shape := ⟨3, ![4, 8192, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S32x1024 : Shape := ⟨2, ![32, 1024]⟩
abbrev S1 : Shape := ⟨1, ![1]⟩
abbrev S32x8x128 : Shape := ⟨3, ![32, 8, 128]⟩
abbrev S1x8x128 : Shape := ⟨3, ![1, 8, 128]⟩
abbrev S1x512x1024 : Shape := ⟨3, ![1, 512, 1024]⟩
abbrev S1x16x1024 : Shape := ⟨3, ![1, 16, 1024]⟩
abbrev S544x8x128 : Shape := ⟨3, ![544, 8, 128]⟩
abbrev S512x8x128 : Shape := ⟨3, ![512, 8, 128]⟩
abbrev S16x1024 : Shape := ⟨2, ![16, 1024]⟩
abbrev S16x8x128 : Shape := ⟨3, ![16, 8, 128]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S31x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024x1024, .bf16⟩
  | .hbm, ⟨13, _⟩ => ⟨S1024x1024, .bf16⟩
  | .hbm, ⟨14, _⟩ => ⟨S1024, .f32⟩
  | .hbm, ⟨15, _⟩ => ⟨S_, .f32⟩
  | .hbm, ⟨16, _⟩ => ⟨S32x1024, .f32⟩
  | .hbm, ⟨17, _⟩ => ⟨S_, .i32⟩
  | .hbm, ⟨18, _⟩ => ⟨S1, .i32⟩
  | .hbm, ⟨19, _⟩ => ⟨S32x1024, .f32⟩
  | .hbm, ⟨20, _⟩ => ⟨S32x8x128, .f32⟩
  | .hbm, ⟨21, _⟩ => ⟨S1x8x128, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x1024, .f32⟩
  | .local _ .vmem, ⟨7, _⟩ => ⟨S1x512x1024, .f32⟩
  | .local _ .vmem, ⟨8, _⟩ => ⟨S32x8x128, .f32⟩
  | .local _ .vmem, ⟨9, _⟩ => ⟨S1x8x128, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S544x8x128, .f32⟩
  | .local _ .vmem, ⟨17, _⟩ => ⟨S512x8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_16 : BitVec 32 := 0#32
  let c32_i32 : BitVec 32 := 32#32
  let v24 : BitVec 32 := Scalar.addi c0_i32_16 c32_i32
  let c1_i32 : BitVec 32 := 1#32
  ⟨c0_i32_16, v24, c1_i32⟩
def k0_mult1 (k0_t1 : Fin k0_t1_loop.trips) : BitVec 32 :=
  let c0_i32_16 : BitVec 32 := 0#32
  let c1_i32 : BitVec 32 := 1#32
  let arg15 : BitVec 32 := Scf.iv c0_i32_16 c1_i32 k0_t1
  let c16_i32 : BitVec 32 := 16#32
  let v67 : BitVec 32 := Scalar.muli arg15 c16_i32
  v67
def k0_off1 (k0_t1 : Fin k0_t1_loop.trips) (c0_i32_45 : BitVec 32) : Fin 3 → Nat :=
  let c0_i32_16 : BitVec 32 := 0#32
  let c1_i32 : BitVec 32 := 1#32
  let arg15 : BitVec 32 := Scf.iv c0_i32_16 c1_i32 k0_t1
  let c16_i32 : BitVec 32 := 16#32
  let v67 : BitVec 32 := Scalar.muli arg15 c16_i32
  let v68 : BitVec 32 := v67
  let c1_i32_44 : BitVec 32 := 1#32
  let v73 : BitVec 32 := Scalar.addi v68 c1_i32_44
  let v74 : BitVec 32 := Scalar.addi v73 c0_i32_45
  let v75 : Index := Scalar.indexCast v74
  let c0_46 : Index := 0#32
  let c0_47 : Index := 0#32
  ![v75.toNat, 0, 0]
def k0_off2 (k0_t1 : Fin k0_t1_loop.trips) : Fin 3 → Nat :=
  let c0_i32_16 : BitVec 32 := 0#32
  let c1_i32 : BitVec 32 := 1#32
  let arg15 : BitVec 32 := Scf.iv c0_i32_16 c1_i32 k0_t1
  let c16_i32 : BitVec 32 := 16#32
  let v67 : BitVec 32 := Scalar.muli arg15 c16_i32
  let v68 : BitVec 32 := v67
  let v352 : Index := Scalar.indexCast v68
  let c0_205 : Index := 0#32
  let c0_206 : Index := 0#32
  ![v352.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConfRefIdeal.lean ====
abbrev S4x8192x1024 : Shape := ⟨3, ![4, 8192, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S31x1024 : Shape := ⟨2, ![31, 1024]⟩
abbrev S1024 : Shape := ⟨1, ![1024]⟩
abbrev S_ : Shape := ⟨0, ![]⟩
abbrev S4x8222x1024 : Shape := ⟨3, ![4, 8222, 1024]⟩
abbrev S1x1x1024 : Shape := ⟨3, ![1, 1, 1024]⟩
abbrev S4x8192 : Shape := ⟨2, ![4, 8192]⟩
abbrev S4x8192x1 : Shape := ⟨3, ![4, 8192, 1]⟩
abbrev S1024x1024 : Shape := ⟨2, ![1024, 1024]⟩

abbrev nBuf : Space → Nat
  | .hbm => 277
  | .vmem => 0
  | .smem => 0
  | _ => 0

abbrev hbmTy0_0 (i : Nat) : BufTy := match i % 128 with
  | 0 => ⟨S4x8192x1024, .f32⟩
  | 1 => ⟨S4x8192x1024, .f32⟩
  | 2 => ⟨S1x31x1024, .f32⟩
  | 3 => ⟨S1x1024, .f32⟩
  | 4 => ⟨S1x1024, .f32⟩
  | 5 => ⟨S1x1024, .f32⟩
  | 6 => ⟨S1x1024x1024, .f32⟩
  | 7 => ⟨S1x1024, .f32⟩
  | 8 => ⟨S31x1024, .f32⟩
  | 9 => ⟨S1024, .f32⟩
  | 10 => ⟨S_, .i32⟩
  | 11 => ⟨S_, .f32⟩
  | 12 => ⟨S4x8222x1024, .f32⟩
  | 13 => ⟨S4x8192x1024, .f32⟩
  | 14 => ⟨S1x1024, .f32⟩
  | 15 => ⟨S1024, .f32⟩
  | 16 => ⟨S1x1x1024, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S1x1024, .f32⟩
  | 28 => ⟨S1024, .f32⟩
  | 29 => ⟨S1x1x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S1x1024, .f32⟩
  | 35 => ⟨S1024, .f32⟩
  | 36 => ⟨S1x1x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S1x1024, .f32⟩
  | 42 => ⟨S1024, .f32⟩
  | 43 => ⟨S1x1x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S1x1024, .f32⟩
  | 49 => ⟨S1024, .f32⟩
  | 50 => ⟨S1x1x1024, .f32⟩
  | 51 => ⟨S4x8192x1024, .f32⟩
  | 52 => ⟨S4x8192x1024, .f32⟩
  | 53 => ⟨S4x8192x1024, .f32⟩
  | 54 => ⟨S4x8192x1024, .f32⟩
  | 55 => ⟨S1x1024, .f32⟩
  | 56 => ⟨S1024, .f32⟩
  | 57 => ⟨S1x1x1024, .f32⟩
  | 58 => ⟨S4x8192x1024, .f32⟩
  | 59 => ⟨S4x8192x1024, .f32⟩
  | 60 => ⟨S4x8192x1024, .f32⟩
  | 61 => ⟨S4x8192x1024, .f32⟩
  | 62 => ⟨S1x1024, .f32⟩
  | 63 => ⟨S1024, .f32⟩
  | 64 => ⟨S1x1x1024, .f32⟩
  | 65 => ⟨S4x8192x1024, .f32⟩
  | 66 => ⟨S4x8192x1024, .f32⟩
  | 67 => ⟨S4x8192x1024, .f32⟩
  | 68 => ⟨S4x8192x1024, .f32⟩
  | 69 => ⟨S1x1024, .f32⟩
  | 70 => ⟨S1024, .f32⟩
  | 71 => ⟨S1x1x1024, .f32⟩
  | 72 => ⟨S4x8192x1024, .f32⟩
  | 73 => ⟨S4x8192x1024, .f32⟩
  | 74 => ⟨S4x8192x1024, .f32⟩
  | 75 => ⟨S4x8192x1024, .f32⟩
  | 76 => ⟨S1x1024, .f32⟩
  | 77 => ⟨S1024, .f32⟩
  | 78 => ⟨S1x1x1024, .f32⟩
  | 79 => ⟨S4x8192x1024, .f32⟩
  | 80 => ⟨S4x8192x1024, .f32⟩
  | 81 => ⟨S4x8192x1024, .f32⟩
  | 82 => ⟨S4x8192x1024, .f32⟩
  | 83 => ⟨S1x1024, .f32⟩
  | 84 => ⟨S1024, .f32⟩
  | 85 => ⟨S1x1x1024, .f32⟩
  | 86 => ⟨S4x8192x1024, .f32⟩
  | 87 => ⟨S4x8192x1024, .f32⟩
  | 88 => ⟨S4x8192x1024, .f32⟩
  | 89 => ⟨S4x8192x1024, .f32⟩
  | 90 => ⟨S1x1024, .f32⟩
  | 91 => ⟨S1024, .f32⟩
  | 92 => ⟨S1x1x1024, .f32⟩
  | 93 => ⟨S4x8192x1024, .f32⟩
  | 94 => ⟨S4x8192x1024, .f32⟩
  | 95 => ⟨S4x8192x1024, .f32⟩
  | 96 => ⟨S4x8192x1024, .f32⟩
  | 97 => ⟨S1x1024, .f32⟩
  | 98 => ⟨S1024, .f32⟩
  | 99 => ⟨S1x1x1024, .f32⟩
  | 100 => ⟨S4x8192x1024, .f32⟩
  | 101 => ⟨S4x8192x1024, .f32⟩
  | 102 => ⟨S4x8192x1024, .f32⟩
  | 103 => ⟨S4x8192x1024, .f32⟩
  | 104 => ⟨S1x1024, .f32⟩
  | 105 => ⟨S1024, .f32⟩
  | 106 => ⟨S1x1x1024, .f32⟩
  | 107 => ⟨S4x8192x1024, .f32⟩
  | 108 => ⟨S4x8192x1024, .f32⟩
  | 109 => ⟨S4x8192x1024, .f32⟩
  | 110 => ⟨S4x8192x1024, .f32⟩
  | 111 => ⟨S1x1024, .f32⟩
  | 112 => ⟨S1024, .f32⟩
  | 113 => ⟨S1x1x1024, .f32⟩
  | 114 => ⟨S4x8192x1024, .f32⟩
  | 115 => ⟨S4x8192x1024, .f32⟩
  | 116 => ⟨S4x8192x1024, .f32⟩
  | 117 => ⟨S4x8192x1024, .f32⟩
  | 118 => ⟨S1x1024, .f32⟩
  | 119 => ⟨S1024, .f32⟩
  | 120 => ⟨S1x1x1024, .f32⟩
  | 121 => ⟨S4x8192x1024, .f32⟩
  | 122 => ⟨S4x8192x1024, .f32⟩
  | 123 => ⟨S4x8192x1024, .f32⟩
  | 124 => ⟨S4x8192x1024, .f32⟩
  | 125 => ⟨S1x1024, .f32⟩
  | 126 => ⟨S1024, .f32⟩
  | 127 => ⟨S1x1x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S4x8192x1024, .f32⟩
  | 4 => ⟨S1x1024, .f32⟩
  | 5 => ⟨S1024, .f32⟩
  | 6 => ⟨S1x1x1024, .f32⟩
  | 7 => ⟨S4x8192x1024, .f32⟩
  | 8 => ⟨S4x8192x1024, .f32⟩
  | 9 => ⟨S4x8192x1024, .f32⟩
  | 10 => ⟨S4x8192x1024, .f32⟩
  | 11 => ⟨S1x1024, .f32⟩
  | 12 => ⟨S1024, .f32⟩
  | 13 => ⟨S1x1x1024, .f32⟩
  | 14 => ⟨S4x8192x1024, .f32⟩
  | 15 => ⟨S4x8192x1024, .f32⟩
  | 16 => ⟨S4x8192x1024, .f32⟩
  | 17 => ⟨S4x8192x1024, .f32⟩
  | 18 => ⟨S1x1024, .f32⟩
  | 19 => ⟨S1024, .f32⟩
  | 20 => ⟨S1x1x1024, .f32⟩
  | 21 => ⟨S4x8192x1024, .f32⟩
  | 22 => ⟨S4x8192x1024, .f32⟩
  | 23 => ⟨S4x8192x1024, .f32⟩
  | 24 => ⟨S4x8192x1024, .f32⟩
  | 25 => ⟨S1x1024, .f32⟩
  | 26 => ⟨S1024, .f32⟩
  | 27 => ⟨S1x1x1024, .f32⟩
  | 28 => ⟨S4x8192x1024, .f32⟩
  | 29 => ⟨S4x8192x1024, .f32⟩
  | 30 => ⟨S4x8192x1024, .f32⟩
  | 31 => ⟨S4x8192x1024, .f32⟩
  | 32 => ⟨S1x1024, .f32⟩
  | 33 => ⟨S1024, .f32⟩
  | 34 => ⟨S1x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S1x1024, .f32⟩
  | 40 => ⟨S1024, .f32⟩
  | 41 => ⟨S1x1x1024, .f32⟩
  | 42 => ⟨S4x8192x1024, .f32⟩
  | 43 => ⟨S4x8192x1024, .f32⟩
  | 44 => ⟨S4x8192x1024, .f32⟩
  | 45 => ⟨S4x8192x1024, .f32⟩
  | 46 => ⟨S1x1024, .f32⟩
  | 47 => ⟨S1024, .f32⟩
  | 48 => ⟨S1x1x1024, .f32⟩
  | 49 => ⟨S4x8192x1024, .f32⟩
  | 50 => ⟨S4x8192x1024, .f32⟩
  | 51 => ⟨S4x8192x1024, .f32⟩
  | 52 => ⟨S4x8192x1024, .f32⟩
  | 53 => ⟨S1x1024, .f32⟩
  | 54 => ⟨S1024, .f32⟩
  | 55 => ⟨S1x1x1024, .f32⟩
  | 56 => ⟨S4x8192x1024, .f32⟩
  | 57 => ⟨S4x8192x1024, .f32⟩
  | 58 => ⟨S4x8192x1024, .f32⟩
  | 59 => ⟨S4x8192x1024, .f32⟩
  | 60 => ⟨S1x1024, .f32⟩
  | 61 => ⟨S1024, .f32⟩
  | 62 => ⟨S1x1x1024, .f32⟩
  | 63 => ⟨S4x8192x1024, .f32⟩
  | 64 => ⟨S4x8192x1024, .f32⟩
  | 65 => ⟨S4x8192x1024, .f32⟩
  | 66 => ⟨S4x8192x1024, .f32⟩
  | 67 => ⟨S1x1024, .f32⟩
  | 68 => ⟨S1024, .f32⟩
  | 69 => ⟨S1x1x1024, .f32⟩
  | 70 => ⟨S4x8192x1024, .f32⟩
  | 71 => ⟨S4x8192x1024, .f32⟩
  | 72 => ⟨S4x8192x1024, .f32⟩
  | 73 => ⟨S4x8192x1024, .f32⟩
  | 74 => ⟨S1x1024, .f32⟩
  | 75 => ⟨S1024, .f32⟩
  | 76 => ⟨S1x1x1024, .f32⟩
  | 77 => ⟨S4x8192x1024, .f32⟩
  | 78 => ⟨S4x8192x1024, .f32⟩
  | 79 => ⟨S4x8192x1024, .f32⟩
  | 80 => ⟨S4x8192x1024, .f32⟩
  | 81 => ⟨S1x1024, .f32⟩
  | 82 => ⟨S1024, .f32⟩
  | 83 => ⟨S1x1x1024, .f32⟩
  | 84 => ⟨S4x8192x1024, .f32⟩
  | 85 => ⟨S4x8192x1024, .f32⟩
  | 86 => ⟨S4x8192x1024, .f32⟩
  | 87 => ⟨S4x8192x1024, .f32⟩
  | 88 => ⟨S1x1024, .f32⟩
  | 89 => ⟨S1024, .f32⟩
  | 90 => ⟨S1x1x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S1x1024, .f32⟩
  | 96 => ⟨S1024, .f32⟩
  | 97 => ⟨S1x1x1024, .f32⟩
  | 98 => ⟨S4x8192x1024, .f32⟩
  | 99 => ⟨S4x8192x1024, .f32⟩
  | 100 => ⟨S4x8192x1024, .f32⟩
  | 101 => ⟨S1x1x1024, .f32⟩
  | 102 => ⟨S4x8192x1024, .f32⟩
  | 103 => ⟨S4x8192x1024, .f32⟩
  | 104 => ⟨S_, .f32⟩
  | 105 => ⟨S4x8192, .f32⟩
  | 106 => ⟨S4x8192x1, .f32⟩
  | 107 => ⟨S_, .f32⟩
  | 108 => ⟨S4x8192x1, .f32⟩
  | 109 => ⟨S4x8192x1, .f32⟩
  | 110 => ⟨S4x8192x1024, .f32⟩
  | 111 => ⟨S4x8192x1024, .f32⟩
  | 112 => ⟨S4x8192x1024, .f32⟩
  | 113 => ⟨S_, .f32⟩
  | 114 => ⟨S4x8192, .f32⟩
  | 115 => ⟨S4x8192x1, .f32⟩
  | 116 => ⟨S_, .f32⟩
  | 117 => ⟨S4x8192x1, .f32⟩
  | 118 => ⟨S4x8192x1, .f32⟩
  | 119 => ⟨S_, .f32⟩
  | 120 => ⟨S4x8192x1, .f32⟩
  | 121 => ⟨S4x8192x1, .f32⟩
  | 122 => ⟨S4x8192x1, .f32⟩
  | 123 => ⟨S4x8192x1024, .f32⟩
  | 124 => ⟨S4x8192x1024, .f32⟩
  | 125 => ⟨S1024, .f32⟩
  | 126 => ⟨S1x1x1024, .f32⟩
  | 127 => ⟨S4x8192x1024, .f32⟩
  | _ => ⟨S4x8192x1024, .f32⟩

abbrev hbmTy0_2 (i : Nat) : BufTy := match i % 128 with
  | 0 => ⟨S4x8192x1024, .f32⟩
  | 1 => ⟨S1024, .f32⟩
  | 2 => ⟨S1x1x1024, .f32⟩
  | 3 => ⟨S4x8192x1024, .f32⟩
  | 4 => ⟨S4x8192x1024, .f32⟩
  | 5 => ⟨S4x8192x1024, .f32⟩
  | 6 => ⟨S4x8192x1024, .f32⟩
  | 7 => ⟨S_, .f32⟩
  | 8 => ⟨S4x8192x1024, .f32⟩
  | 9 => ⟨S4x8192x1024, .f32⟩
  | 10 => ⟨S_, .f32⟩
  | 11 => ⟨S4x8192x1024, .f32⟩
  | 12 => ⟨S4x8192x1024, .f32⟩
  | 13 => ⟨S4x8192x1024, .f32⟩
  | 14 => ⟨S1024x1024, .f32⟩
  | 15 => ⟨S4x8192x1024, .f32⟩
  | 16 => ⟨S1024, .f32⟩
  | 17 => ⟨S1x1x1024, .f32⟩
  | 18 => ⟨S4x8192x1024, .f32⟩
  | 19 => ⟨S4x8192x1024, .f32⟩
  | 20 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_cst : Ref sig .tc := ⟨.hbm, 232, rfl⟩
abbrev main_v222 : Ref sig .tc := ⟨.hbm, 233, rfl⟩
abbrev main_v223 : Ref sig .tc := ⟨.hbm, 234, rfl⟩
abbrev main_cst_0 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_cst_1 : Ref sig .tc := ⟨.hbm, 241, rfl⟩
abbrev main_v229 : Ref sig .tc := ⟨.hbm, 242, rfl⟩
abbrev main_v230 : Ref sig .tc := ⟨.hbm, 243, rfl⟩
abbrev main_cst_2 : Ref sig .tc := ⟨.hbm, 244, rfl⟩
abbrev main_v231 : Ref sig .tc := ⟨.hbm, 245, rfl⟩
abbrev main_v232 : Ref sig .tc := ⟨.hbm, 246, rfl⟩
abbrev main_cst_3 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_call1_v0 : Ref sig .tc := ⟨.hbm, 261, rfl⟩
abbrev main_call1_v1 : Ref sig .tc := ⟨.hbm, 262, rfl⟩
abbrev main_call1_cst : Ref sig .tc := ⟨.hbm, 263, rfl⟩
abbrev main_call1_v2 : Ref sig .tc := ⟨.hbm, 264, rfl⟩
abbrev main_call1_v3 : Ref sig .tc := ⟨.hbm, 265, rfl⟩
abbrev main_call1_cst_0 : Ref sig .tc := ⟨.hbm, 266, rfl⟩
abbrev main_call1_v4 : Ref sig .tc := ⟨.hbm, 267, rfl⟩
abbrev main_call1_v5 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩

abbrev nD : Nat := 1
abbrev τ : Topo := Topo.v7x

variable {F : FTy → Type} [FloatOps F]
-- ==== Proj.lean ====
abbrev S32768x1024 : Shape := ⟨2, ![32768, 1024]⟩
abbrev S2x1024 : Shape := ⟨2, ![2, 1024]⟩
abbrev S1x1024x3072 : Shape := ⟨3, ![1, 1024, 3072]⟩
abbrev S1x3072 : Shape := ⟨2, ![1, 3072]⟩
abbrev S1x1024 : Shape := ⟨2, ![1, 1024]⟩
abbrev S1024 : Shape := ⟨1, ![1024]⟩
abbrev S1024x3072 : Shape := ⟨2, ![1024, 3072]⟩
abbrev S3072 : Shape := ⟨1, ![3072]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3072, .f32⟩
  | .hbm, ⟨3, _⟩ => ⟨S1x3072, .f32⟩
  | .hbm, ⟨4, _⟩ => ⟨S1x1024, .f32⟩
  | .hbm, ⟨5, _⟩ => ⟨S1024, .f32⟩
  | .hbm, ⟨6, _⟩ => ⟨S1x1024x3072, .bf16⟩
  | .hbm, ⟨7, _⟩ => ⟨S1024x3072, .bf16⟩
  | .hbm, ⟨8, _⟩ => ⟨S3072, .f32⟩
  | .hbm, ⟨9, _⟩ => ⟨S1x1024, .f32⟩
  | .hbm, ⟨10, _⟩ => ⟨S1x3072, .f32⟩
  | .hbm, ⟨11, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x3072, .f32⟩
  | .local _ .vmem, ⟨6, _⟩ => ⟨S512x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S32768x1024 : Shape := ⟨2, ![32768, 1024]⟩
abbrev S2x1024 : Shape := ⟨2, ![2, 1024]⟩
abbrev S1x1024x3072 : Shape := ⟨3, ![1, 1024, 3072]⟩
abbrev S1x3072 : Shape := ⟨2, ![1, 3072]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3072 : Shape := ⟨2, ![1024, 3072]⟩
abbrev S32768x3072 : Shape := ⟨2, ![32768, 3072]⟩
abbrev S3072 : Shape := ⟨1, ![3072]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3072, .f32⟩
  | .hbm, ⟨3, _⟩ => ⟨S1x3072, .f32⟩
  | .hbm, ⟨4, _⟩ => ⟨S1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x3072, .f32⟩
  | .hbm, ⟨23, _⟩ => ⟨S32768x3072, .f32⟩
  | .hbm, ⟨24, _⟩ => ⟨S3072, .f32⟩
  | .hbm, ⟨25, _⟩ => ⟨S1x3072, .f32⟩
  | .hbm, ⟨26, _⟩ => ⟨S32768x3072, .f32⟩
  | .hbm, ⟨27, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Short.lean ====
abbrev S4x8192x3072 : Shape := ⟨3, ![4, 8192, 3072]⟩
abbrev S1x3x3072 : Shape := ⟨3, ![1, 3, 3072]⟩
abbrev S1x3072 : Shape := ⟨2, ![1, 3072]⟩
abbrev S3x3072 : Shape := ⟨2, ![3, 3072]⟩
abbrev S3072 : Shape := ⟨1, ![3072]⟩
abbrev S_ : Shape := ⟨0, ![]⟩
abbrev S8x3072 : Shape := ⟨2, ![8, 3072]⟩
abbrev S1 : Shape := ⟨1, ![1]⟩
abbrev S4x8192x1024 : Shape := ⟨3, ![4, 8192, 1024]⟩
abbrev S4x16x512x1024 : Shape := ⟨4, ![4, 16, 512, 1024]⟩
abbrev S1x512x3072 : Shape := ⟨3, ![1, 512, 3072]⟩
abbrev S1x8x3072 : Shape := ⟨3, ![1, 8, 3072]⟩
abbrev S1x512x1024 : Shape := ⟨3, ![1, 512, 1024]⟩
abbrev S1x16x32x1024 : Shape := ⟨4, ![1, 16, 32, 1024]⟩
abbrev S528x3072 : Shape := ⟨2, ![528, 3072]⟩
abbrev S512x3072 : Shape := ⟨2, ![512, 3072]⟩
abbrev S1x1024 : Shape := ⟨2, ![1, 1024]⟩
abbrev S512x1024 : Shape := ⟨2, ![512, 1024]⟩
abbrev S8x1024 : Shape := ⟨2, ![8, 1024]⟩
abbrev S1x1x8x1024 : Shape := ⟨4, ![1, 1, 8, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4x8192x3072, .f32⟩
  | .hbm, ⟨1, _⟩ => ⟨S1x3x3072, .f32⟩
  | .hbm, ⟨2, _⟩ => ⟨S1x3072, .f32⟩
  | .hbm, ⟨3, _⟩ => ⟨S3x3072, .f32⟩
  | .hbm, ⟨4, _⟩ => ⟨S3072, .f32⟩
  | .hbm, ⟨5, _⟩ => ⟨S_, .f32⟩
  | .hbm, ⟨6, _⟩ => ⟨S8x3072, .f32⟩
  | .hbm, ⟨7, _⟩ => ⟨S_, .i32⟩
  | .hbm, ⟨8, _⟩ => ⟨S1, .i32⟩
  | .hbm, ⟨9, _⟩ => ⟨S8x3072, .f32⟩
  | .hbm, ⟨10, _⟩ => ⟨S1x3072, .f32⟩
  | .hbm, ⟨11, _⟩ => ⟨S4x8192x1024, .f32⟩
  | .hbm, ⟨12, _⟩ => ⟨S4x16x512x1024, .f32⟩
  | .hbm, ⟨13, _⟩ => ⟨S4x8192x1024, .f32⟩
  | .local _ .vmem, ⟨0, _⟩ => ⟨S1x512x3072, .f32⟩
  | .local _ .vmem, ⟨1, _⟩ => ⟨S1x512x3072, .f32⟩
  | .local _ .vmem, ⟨2, _⟩ => ⟨S1x8x3072, .f32⟩
  | .local _ .vmem, ⟨3, _⟩ => ⟨S1x8x3072, .f32⟩
  | .local _ .vmem, ⟨4, _⟩ => ⟨S1x8x3072, .f32⟩
  | .local _ .vmem, ⟨5, _⟩ => ⟨S1x8x3072, .f32⟩
  | .local _ .vmem, ⟨6, _⟩ => ⟨S8x3072, .f32⟩
  | .local _ .vmem, ⟨7, _⟩ => ⟨S1x3072, .f32⟩
  | .local _ .vmem, ⟨8, _⟩ => ⟨S1x512x1024, .f32⟩
  | .local _ .vmem, ⟨9, _⟩ => ⟨S1x512x1024, .f32⟩
  | .local _ .vmem, ⟨10, _⟩ => ⟨S1x16x32x1024, .f32⟩
  | .local _ .vmem, ⟨11, _⟩ => ⟨S1x16x32x1024, .f32⟩
  | .local _ .vmem, ⟨12, _⟩ => ⟨S1x512x1024, .f32⟩
  | .local _ .vmem, ⟨13, _⟩ => ⟨S1x512x1024, .f32⟩
  | .local _ .vmem, ⟨14, _⟩ => ⟨S528x3072, .f32⟩
  | _, _ => ⟨S4x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ShortRefIdeal.lean ====
abbrev S4x8192x3072 : Shape := ⟨3, ![4, 8192, 3072]⟩
abbrev S1x3x3072 : Shape := ⟨3, ![1, 3, 3072]⟩
abbrev S1x3072 : Shape := ⟨2, ![1, 3072]⟩
abbrev S3x3072 : Shape := ⟨2, ![3, 3072]⟩
abbrev S3072 : Shape := ⟨1, ![3072]⟩
abbrev S_ : Shape := ⟨0, ![]⟩
abbrev S4x8194x3072 : Shape := ⟨3, ![4, 8194, 3072]⟩
abbrev S1x1x3072 : Shape := ⟨3, ![1, 1, 3072]⟩
abbrev S4x8192x1024 : Shape := ⟨3, ![4, 8192, 1024]⟩
abbrev S4x64x16x8x1024 : Shape := ⟨5, ![4, 64, 16, 8, 1024]⟩
abbrev S4x16x64x8x1024 : Shape := ⟨5, ![4, 16, 64, 8, 1024]⟩
abbrev S4x16x512x1024 : Shape := ⟨4, ![4, 16, 512, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x3072, .f32⟩
  | .hbm, ⟨1, _⟩ => ⟨S1x3x3072, .f32⟩
  | .hbm, ⟨2, _⟩ => ⟨S1x3072, .f32⟩
  | .hbm, ⟨3, _⟩ => ⟨S3x3072, .f32⟩
  | .hbm, ⟨4, _⟩ => ⟨S3072, .f32⟩
  | .hbm, ⟨5, _⟩ => ⟨S_, .i32⟩
  | .hbm, ⟨6, _⟩ => ⟨S_, .f32⟩
  | .hbm, ⟨7, _⟩ => ⟨S4x8194x3072, .f32⟩
  | .hbm, ⟨8, _⟩ => ⟨S4x8192x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x8192x3072, .f32⟩
  | .hbm, ⟨13, _⟩ => ⟨S4x8192x3072, .f32⟩
  | .hbm, ⟨14, _⟩ => ⟨S4x8192x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x8192x3072, .f32⟩
  | .hbm, ⟨19, _⟩ => ⟨S4x8192x3072, .f32⟩
  | .hbm, ⟨20, _⟩ => ⟨S4x8192x3072, .f32⟩
  | .hbm, ⟨21, _⟩ => ⟨S4x8192x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x8192x3072, .f32⟩
  | .hbm, ⟨26, _⟩ => ⟨S4x8192x3072, .f32⟩
  | .hbm, ⟨27, _⟩ => ⟨S4x8192x3072, .f32⟩
  | .hbm, ⟨28, _⟩ => ⟨S1x1x3072, .f32⟩
  | .hbm, ⟨29, _⟩ => ⟨S4x8192x3072, .f32⟩
  | .hbm, ⟨30, _⟩ => ⟨S4x8192x3072, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x64x16x8x1024, .f32⟩
  | .hbm, ⟨36, _⟩ => ⟨S4x16x64x8x1024, .f32⟩
  | .hbm, ⟨37, _⟩ => ⟨S4x16x512x1024, .f32⟩
  | _, _ => ⟨S4x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Filter.lean ====
abbrev S1x33x64 : Shape := ⟨3, ![1, 33, 64]⟩
abbrev S1x64 : Shape := ⟨2, ![1, 64]⟩
abbrev S1x2x64x64 : Shape := ⟨4, ![1, 2, 64, 64]⟩
abbrev S1x2x64 : Shape := ⟨3, ![1, 2, 64]⟩
abbrev S1x64x2048 : Shape := ⟨3, ![1, 64, 2048]⟩
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S64x2048 : Shape := ⟨2, ![64, 2048]⟩
abbrev S_ : Shape := ⟨0, ![]⟩
abbrev S15 : Shape := ⟨1, ![15]⟩
abbrev S1 : Shape := ⟨1, ![1]⟩
abbrev S16 : Shape := ⟨1, ![16]⟩
abbrev S1x128 : Shape := ⟨2, ![1, 128]⟩
abbrev S2 : Shape := ⟨1, ![2]⟩
abbrev S1023 : Shape := ⟨1, ![1023]⟩
abbrev S1024 : Shape := ⟨1, ![1024]⟩
abbrev S1x1024 : Shape := ⟨2, ![1, 1024]⟩
abbrev S128x128 : Shape := ⟨2, ![128, 128]⟩
abbrev S2x128x128 : Shape := ⟨3, ![2, 128, 128]⟩
abbrev S2x1x64 : Shape := ⟨3, ![2, 1, 64]⟩
abbrev S2x1x128 : Shape := ⟨3, ![2, 1, 128]⟩
abbrev S128x2048 : Shape := ⟨2, ![128, 2048]⟩
abbrev S2x16x512x1024 : Shape := ⟨4, ![2, 16, 512, 1024]⟩
abbrev S16x8x1024 : Shape := ⟨3, ![16, 8, 1024]⟩
abbrev S2x16x32x1024 : Shape := ⟨4, ![2, 16, 32, 1024]⟩
abbrev S1x8x1024 : Shape := ⟨3, ![1, 8, 1024]⟩
abbrev S512x1 : Shape := ⟨2, ![512, 1]⟩
abbrev S512x128 : Shape := ⟨2, ![512, 128]⟩
abbrev S1x128x128 : Shape := ⟨3, ![1, 128, 128]⟩
abbrev S1x1x128 : Shape := ⟨3, ![1, 1, 128]⟩
abbrev S512x2048 : Shape := ⟨2, ![512, 2048]⟩
abbrev S512x1024 : Shape := ⟨2, ![512, 1024]⟩
abbrev S8x1024 : Shape := ⟨2, ![8, 1024]⟩
abbrev S1x1x8x1024 : Shape := ⟨4, ![1, 1, 8, 1024]⟩
abbrev S16x1x1024 : Shape := ⟨3, ![16, 1, 1024]⟩
abbrev S16x1024 : Shape := ⟨2, ![16, 1024]⟩

abbrev nBuf : Space → Nat
  | .hbm => 124
  | .vmem => 12
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x2x64x64, .f32⟩
  | .hbm, ⟨3, _⟩ => ⟨S1x2x64, .f32⟩
  | .hbm, ⟨4, _⟩ => ⟨S1x64x2048, .f32⟩
  | .hbm, ⟨5, _⟩ => ⟨S1x64, .f32⟩
  | .hbm, ⟨6, _⟩ => ⟨S33x64, .f32⟩
  | .hbm, ⟨7, _⟩ => ⟨S64, .f32⟩
  | .hbm, ⟨8, _⟩ => ⟨S2x64x64, .f32⟩
  | .hbm, ⟨9, _⟩ => ⟨S2x64, .f32⟩
  | .hbm, ⟨10, _⟩ => ⟨S64x2048, .f32⟩
  | .hbm, ⟨11, _⟩ => ⟨S64, .f32⟩
  | .hbm, ⟨12, _⟩ => ⟨S_, .f32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S15, .f32⟩
  | .hbm, ⟨20, _⟩ => ⟨S_, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S_, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S15, .f32⟩
  | .hbm, ⟨29, _⟩ => ⟨S1, .f32⟩
  | .hbm, ⟨30, _⟩ => ⟨S15, .f32⟩
  | .hbm, ⟨31, _⟩ => ⟨S15, .f32⟩
  | .hbm, ⟨32, _⟩ => ⟨S15, .f32⟩
  | .hbm, ⟨33, _⟩ => ⟨S1, .f32⟩
  | .hbm, ⟨34, _⟩ => ⟨S16, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1023, .f32⟩
  | .hbm, ⟨57, _⟩ => ⟨S_, .f32⟩
  | .hbm, ⟨58, _⟩ => ⟨S1023, .f32⟩
  | .hbm, ⟨59, _⟩ => ⟨S1023, .f32⟩
  | .hbm, ⟨60, _⟩ => ⟨S1, .f32⟩
  | .hbm, ⟨61, _⟩ => ⟨S_, .f32⟩
  | .hbm, ⟨62, _⟩ => ⟨S1023, .f32⟩
  | .hbm, ⟨63, _⟩ => ⟨S1023, .f32⟩
  | .hbm, ⟨64, _⟩ => ⟨S1023, .f32⟩
  | .hbm, ⟨65, _⟩ => ⟨S1023, .f32⟩
  | .hbm, ⟨66, _⟩ => ⟨S1, .f32⟩
  | .hbm, ⟨67, _⟩ => ⟨S1023, .f32⟩
  | .hbm, ⟨68, _⟩ => ⟨S1023, .f32⟩
  | .hbm, ⟨69, _⟩ => ⟨S1023, .f32⟩
  | .hbm, ⟨70, _⟩ => ⟨S1, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S128x128, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S128x128, .f32⟩
  | .hbm, ⟨81, _⟩ => ⟨S1x64, .f32⟩
  | .hbm, ⟨82, _⟩ => ⟨S_, .f32⟩
  | .hbm, ⟨83, _⟩ => ⟨S1x128, .f32⟩
  | .hbm, ⟨84, _⟩ => ⟨S_, .i32⟩
  | .hbm, ⟨85, _⟩ => ⟨S1, .i32⟩
  | .hbm, ⟨86, _⟩ => ⟨S1x128, .f32⟩
  | .hbm, ⟨87, _⟩ => ⟨S_, .f32⟩
  | .hbm, ⟨88, _⟩ => ⟨S2x128x128, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S2x128x128, .f32⟩
  | .hbm, ⟨95, _⟩ => ⟨S2x1x64, .f32⟩
  | .hbm, ⟨96, _⟩ => ⟨S_, .f32⟩
  | .hbm, ⟨97, _⟩ => ⟨S2x1x128, .f32⟩
  | .hbm, ⟨98, _⟩ => ⟨S_, .i32⟩
  | .hbm, ⟨99, _⟩ => ⟨S1, .i32⟩
  | .hbm, ⟨100, _⟩ => ⟨S2x1x128, .f32⟩
  | .hbm, ⟨101, _⟩ => ⟨S_, .f32⟩
  | .hbm, ⟨102, _⟩ => ⟨S128x2048, .f32⟩
  | .hbm, ⟨103, _⟩ => ⟨S_, .i32⟩
  | .hbm, ⟨104, _⟩ => ⟨S1, .i32⟩
  | .hbm, ⟨105, _⟩ => ⟨S128x2048, .f32⟩
  | .hbm, ⟨106, _⟩ => ⟨S1x64, .f32⟩
  | .hbm, ⟨107, _⟩ => ⟨S_, .f32⟩
  | .hbm, ⟨108, _⟩ => ⟨S1x128, .f32⟩
  | .hbm, ⟨109, _⟩ => ⟨S_, .i32⟩
  | .hbm, ⟨110, _⟩ => ⟨S1, .i32⟩
  | .hbm, ⟨111, _⟩ => ⟨S1x128, .f32⟩
  | .hbm, ⟨112, _⟩ => ⟨S2x16x512x1024, .f32⟩
  | .hbm, ⟨113, _⟩ => ⟨S16x8x1024, .f32⟩
  | .hbm, ⟨114, _⟩ => ⟨S16x1x1024, .f32⟩
  | .hbm, ⟨115, _⟩ => ⟨S16x1024, .f32⟩
  | .hbm, ⟨116, _⟩ => ⟨S_, .f32⟩
  | .hbm, ⟨117, _⟩ => ⟨S1024, .f32⟩
  | .hbm, ⟨118, _⟩ => ⟨S_, .f32⟩
  | .hbm, ⟨119, _⟩ => ⟨S1024, .f32⟩
  | .hbm, ⟨120, _⟩ => ⟨S1024, .f32⟩
  | .hbm, ⟨121, _⟩ => ⟨S_, .f32⟩
  | .hbm, ⟨122, _⟩ => ⟨S1024, .f32⟩
  | .hbm, ⟨123, _⟩ => ⟨S1024, .f32⟩
  | .local _ .vmem, ⟨0, _⟩ => ⟨S1x128, .f32⟩
  | .local _ .vmem, ⟨1, _⟩ => ⟨S128x128, .f32⟩
  | .local _ .vmem, ⟨2, _⟩ => ⟨S1x128, .f32⟩
  | .local _ .vmem, ⟨3, _⟩ => ⟨S2x128x128, .f32⟩
  | .local _ .vmem, ⟨4, _⟩ => ⟨S2x1x128, .f32⟩
  | .local _ .vmem, ⟨5, _⟩ => ⟨S128x2048, .f32⟩
  | .local _ .vmem, ⟨6, _⟩ => ⟨S1x128, .f32⟩
  | .local _ .vmem, ⟨7, _⟩ => ⟨S1x1024, .f32⟩
  | .local _ .vmem, ⟨8, _⟩ => ⟨S2x16x32x1024, .f32⟩
  | .local _ .vmem, ⟨9, _⟩ => ⟨S2x16x32x1024, .f32⟩
  | .local _ .vmem, ⟨10, _⟩ => ⟨S1x8x1024, .f32⟩
  | .local _ .vmem, ⟨11, _⟩ => ⟨S1x8x1024, .f32⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_c_1 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_3 : Ref sig .tc := ⟨.hbm, 43, rfl⟩
abbrev main_v12 : Ref sig .tc := ⟨.hbm, 44, rfl⟩
abbrev main_c_4 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_5 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_cst : Ref sig .tc := ⟨.hbm, 54, rfl⟩
abbrev main_call1_v3 : Ref sig .tc := ⟨.hbm, 55, rfl⟩
abbrev main_call1_v4 : Ref sig .tc := ⟨.hbm, 56, rfl⟩
abbrev main_call1_cst_0 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_v15 : Ref sig .tc := ⟨.hbm, 69, rfl⟩
abbrev main_call1_v16 : Ref sig .tc := ⟨.hbm, 70, rfl⟩
abbrev main_v16 : Ref sig .tc := ⟨.hbm, 71, rfl⟩
abbrev main_v17 : Ref sig .tc := ⟨.hbm, 72, rfl⟩
abbrev main_cst_7 : Ref sig .tc := ⟨.hbm, 73, rfl⟩
abbrev main_v18 : Ref sig .tc := ⟨.hbm, 74, rfl⟩
abbrev main_c_8 : Ref sig .tc := ⟨.hbm, 75, rfl⟩
abbrev main_v19 : Ref sig .tc := ⟨.hbm, 76, rfl⟩
abbrev main_c_9 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst_10 : Ref sig .tc := ⟨.hbm, 82, rfl⟩
abbrev main_v24 : Ref sig .tc := ⟨.hbm, 83, rfl⟩
abbrev main_c_11 : Ref sig .tc := ⟨.hbm, 84, rfl⟩
abbrev main_v25 : Ref sig .tc := ⟨.hbm, 85, rfl⟩
abbrev main_v26 : Ref sig .tc := ⟨.hbm, 86, rfl⟩
abbrev main_cst_12 : Ref sig .tc := ⟨.hbm, 87, rfl⟩
abbrev main_v27 : Ref sig .tc := ⟨.hbm, 88, rfl⟩
abbrev main_c_13 : Ref sig .tc := ⟨.hbm, 89, rfl⟩
abbrev main_v28 : Ref sig .tc := ⟨.hbm, 90, rfl⟩
abbrev main_c_14 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_15 : Ref sig .tc := ⟨.hbm, 96, rfl⟩
abbrev main_v33 : Ref sig .tc := ⟨.hbm, 97, rfl⟩
abbrev main_c_16 : Ref sig .tc := ⟨.hbm, 98, rfl⟩
abbrev main_v34 : Ref sig .tc := ⟨.hbm, 99, rfl⟩
abbrev main_v35 : Ref sig .tc := ⟨.hbm, 100, rfl⟩
abbrev main_cst_17 : Ref sig .tc := ⟨.hbm, 101, rfl⟩
abbrev main_v36 : Ref sig .tc := ⟨.hbm, 102, rfl⟩
abbrev main_c_18 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_19 : Ref sig .tc := ⟨.hbm, 107, rfl⟩
abbrev main_v40 : Ref sig .tc := ⟨.hbm, 108, rfl⟩
abbrev main_c_20 : Ref sig .tc := ⟨.hbm, 109, rfl⟩
abbrev main_v41 : Ref sig .tc := ⟨.hbm, 110, rfl⟩
abbrev main_v42 : Ref sig .tc := ⟨.hbm, 111, rfl⟩
abbrev main_v43_0 : Ref sig .tc := ⟨.hbm, 112, rfl⟩
abbrev main_v43_1 : Ref sig .tc := ⟨.hbm, 113, rfl⟩
abbrev main_v44 : Ref sig .tc := ⟨.hbm, 114, rfl⟩
abbrev main_v45 : Ref sig .tc := ⟨.hbm, 115, rfl⟩
abbrev main_cst_21 : Ref sig .tc := ⟨.hbm, 116, rfl⟩
abbrev main_v46 : Ref sig .tc := ⟨.hbm, 117, rfl⟩
abbrev main_cst_22 : Ref sig .tc := ⟨.hbm, 118, rfl⟩
abbrev main_v47 : Ref sig .tc := ⟨.hbm, 119, rfl⟩
abbrev main_v48 : Ref sig .tc := ⟨.hbm, 120, rfl⟩
abbrev main_cst_23 : Ref sig .tc := ⟨.hbm, 121, rfl⟩
abbrev main_v49 : Ref sig .tc := ⟨.hbm, 122, rfl⟩
abbrev main_v50 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x16x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FilterRefIdeal.lean ====
abbrev S1x33x64 : Shape := ⟨3, ![1, 33, 64]⟩
abbrev S1x64 : Shape := ⟨2, ![1, 64]⟩
abbrev S1x2x64x64 : Shape := ⟨4, ![1, 2, 64, 64]⟩
abbrev S1x2x64 : Shape := ⟨3, ![1, 2, 64]⟩
abbrev S1x64x2048 : Shape := ⟨3, ![1, 64, 2048]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S64 : Shape := ⟨1, ![64]⟩
abbrev S33x64 : Shape := ⟨2, ![33, 64]⟩
abbrev S8192x64 : Shape := ⟨2, ![8192, 64]⟩
abbrev S1x1x64x64 : Shape := ⟨4, ![1, 1, 64, 64]⟩
abbrev S64x64 : Shape := ⟨2, ![64, 64]⟩
abbrev S1x1x64 : Shape := ⟨3, ![1, 1, 64]⟩
abbrev S64x2048 : Shape := ⟨2, ![64, 2048]⟩
abbrev S8192x2048 : Shape := ⟨2, ![8192, 2048]⟩
abbrev S1023 : Shape := ⟨1, ![1023]⟩
abbrev S1024 : Shape := ⟨1, ![1024]⟩
abbrev S1x1024 : Shape := ⟨2, ![1, 1024]⟩
abbrev S8192x1024 : Shape := ⟨2, ![8192, 1024]⟩
abbrev S8191x1024 : Shape := ⟨2, ![8191, 1024]⟩
abbrev S1x8192x1024 : Shape := ⟨3, ![1, 8192, 1024]⟩
abbrev S2x8192x1024 : Shape := ⟨3, ![2, 8192, 1024]⟩
abbrev S2x64x16x8x1024 : Shape := ⟨5, ![2, 64, 16, 8, 1024]⟩
abbrev S2x16x64x8x1024 : Shape := ⟨5, ![2, 16, 64, 8, 1024]⟩
abbrev S2x16x512x1024 : Shape := ⟨4, ![2, 16, 512, 1024]⟩

abbrev nBuf : Space → Nat
  | .hbm => 164
  | .vmem => 0
  | .smem => 0
  | _ => 0

abbrev hbmTy0_0 (i : Nat) : BufTy := match i % 128 with
  | 0 => ⟨S1x33x64, .f32⟩
  | 1 => ⟨S1x64, .f32⟩
  | 2 => ⟨S1x2x64x64, .f32⟩
  | 3 => ⟨S1x2x64, .f32⟩
  | 4 => ⟨S1x64x2048, .f32⟩
  | 5 => ⟨S1x64, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S8191, .f32⟩
  | 14 => ⟨S_, .f32⟩
  | 15 => ⟨S8191, .f32⟩
  | 16 => ⟨S8191, .f32⟩
  | 17 => ⟨S1, .f32⟩
  | 18 => ⟨S_, .f32⟩
  | 19 => ⟨S8191, .f32⟩
  | 20 => ⟨S8191, .f32⟩
  | 21 => ⟨S8191, .f32⟩
  | 22 => ⟨S8191, .f32⟩
  | 23 => ⟨S1, .f32⟩
  | 24 => ⟨S8191, .f32⟩
  | 25 => ⟨S8191, .f32⟩
  | 26 => ⟨S8191, .f32⟩
  | 27 => ⟨S1, .f32⟩
  | 28 => ⟨S8192, .f32⟩
  | 29 => ⟨S8192x1, .f32⟩
  | 30 => ⟨S_, .f32⟩
  | 31 => ⟨S_, .i32⟩
  | 32 => ⟨S_, .f32⟩
  | 33 => ⟨S_, .f32⟩
  | 34 => ⟨S_, .f32⟩
  | 35 => ⟨S_, .f32⟩
  | 36 => ⟨S_, .f32⟩
  | 37 => ⟨S15, .f32⟩
  | 38 => ⟨S_, .f32⟩
  | 39 => ⟨S15, .f32⟩
  | 40 => ⟨S15, .f32⟩
  | 41 => ⟨S1, .f32⟩
  | 42 => ⟨S_, .f32⟩
  | 43 => ⟨S15, .f32⟩
  | 44 => ⟨S15, .f32⟩
  | 45 => ⟨S15, .f32⟩
  | 46 => ⟨S15, .f32⟩
  | 47 => ⟨S1, .f32⟩
  | 48 => ⟨S15, .f32⟩
  | 49 => ⟨S15, .f32⟩
  | 50 => ⟨S15, .f32⟩
  | 51 => ⟨S1, .f32⟩
  | 52 => ⟨S16, .f32⟩
  | 53 => ⟨S1x16, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x16, .f32⟩
  | 63 => ⟨S8192x16, .f32⟩
  | 64 => ⟨S8192x16, .f32⟩
  | 65 => ⟨S8192x16, .f32⟩
  | 66 => ⟨S8192x16, .f32⟩
  | 67 => ⟨S8192x16, .f32⟩
  | 68 => ⟨S8192x16, .f32⟩
  | 69 => ⟨S8192x16, .f32⟩
  | 70 => ⟨S8192x16, .f32⟩
  | 71 => ⟨S8192x33, .f32⟩
  | 72 => ⟨S64, .f32⟩
  | 73 => ⟨S33x64, .f32⟩
  | 74 => ⟨S8192x64, .f32⟩
  | 75 => ⟨S64, .f32⟩
  | 76 => ⟨S1x64, .f32⟩
  | 77 => ⟨S8192x64, .f32⟩
  | 78 => ⟨S8192x64, .f32⟩
  | 79 => ⟨S1x64, .f32⟩
  | 80 => ⟨S8192x64, .f32⟩
  | 81 => ⟨S8192x64, .f32⟩
  | 82 => ⟨S8192x64, .f32⟩
  | 83 => ⟨S1x1x64x64, .f32⟩
  | 84 => ⟨S64x64, .f32⟩
  | 85 => ⟨S8192x64, .f32⟩
  | 86 => ⟨S1x1x64, .f32⟩
  | 87 => ⟨S64, .f32⟩
  | 88 => ⟨S1x64, .f32⟩
  | 89 => ⟨S8192x64, .f32⟩
  | 90 => ⟨S8192x64, .f32⟩
  | 91 => ⟨S1x64, .f32⟩
  | 92 => ⟨S8192x64, .f32⟩
  | 93 => ⟨S8192x64, .f32⟩
  | 94 => ⟨S8192x64, .f32⟩
  | 95 => ⟨S1x1x64x64, .f32⟩
  | 96 => ⟨S64x64, .f32⟩
  | 97 => ⟨S8192x64, .f32⟩
  | 98 => ⟨S1x1x64, .f32⟩
  | 99 => ⟨S64, .f32⟩
  | 100 => ⟨S1x64, .f32⟩
  | 101 => ⟨S8192x64, .f32⟩
  | 102 => ⟨S8192x64, .f32⟩
  | 103 => ⟨S1x64, .f32⟩
  | 104 => ⟨S8192x64, .f32⟩
  | 105 => ⟨S8192x64, .f32⟩
  | 106 => ⟨S8192x64, .f32⟩
  | 107 => ⟨S64x2048, .f32⟩
  | 108 => ⟨S8192x2048, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1023, .f32⟩
  | 117 => ⟨S_, .f32⟩
  | 118 => ⟨S1023, .f32⟩
  | 119 => ⟨S1023, .f32⟩
  | 120 => ⟨S1, .f32⟩
  | 121 => ⟨S_, .f32⟩
  | 122 => ⟨S1023, .f32⟩
  | 123 => ⟨S1023, .f32⟩
  | 124 => ⟨S1023, .f32⟩
  | 125 => ⟨S1023, .f32⟩
  | 126 => ⟨S1, .f32⟩
  | 127 => ⟨S1023, .f32⟩
  | _ => ⟨S1x33x64, .f32⟩

abbrev hbmTy0_1 (i : Nat) : BufTy := match i % 128 with
  | 0 => ⟨S1023, .f32⟩
  | 1 => ⟨S1023, .f32⟩
  | 2 => ⟨S1, .f32⟩
  | 3 => ⟨S1024, .f32⟩
  | 4 => ⟨S1x1024, .f32⟩
  | 5 => ⟨S8192x1, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S1x1024, .f32⟩
  | 17 => ⟨S8191x1024, .f32⟩
  | 18 => ⟨S8192x1024, .f32⟩
  | 19 => ⟨S1x8192x1024, .f32⟩
  | 20 => ⟨S1x8192x1024, .f32⟩
  | 21 => ⟨S2x8192x1024, .f32⟩
  | 22 => ⟨S2x64x16x8x1024, .f32⟩
  | 23 => ⟨S2x16x64x8x1024, .f32⟩
  | 24 => ⟨S2x16x512x1024, .f32⟩
  | 25 => ⟨S8192x1024, .f32⟩
  | 26 => ⟨S8192x1024, .f32⟩
  | 27 => ⟨S8192x1024, .f32⟩
  | 28 => ⟨S_, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_cst_1 : Ref sig .tc := ⟨.hbm, 30, rfl⟩
abbrev main_c : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_2 : Ref sig .tc := ⟨.hbm, 56, rfl⟩
abbrev main_v6 : Ref sig .tc := ⟨.hbm, 57, rfl⟩
abbrev main_v7 : Ref sig .tc := ⟨.hbm, 58, rfl⟩
abbrev main_cst_3 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_4 : Ref sig .tc := ⟨.hbm, 109, rfl⟩
abbrev main_cst_5 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_cst : Ref sig .tc := ⟨.hbm, 114, rfl⟩
abbrev main_call2_v3 : Ref sig .tc := ⟨.hbm, 115, rfl⟩
abbrev main_call2_v4 : Ref sig .tc := ⟨.hbm, 116, rfl⟩
abbrev main_call2_cst_0 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_cst_1 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_v15 : Ref sig .tc := ⟨.hbm, 129, rfl⟩
abbrev main_call2_v16 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_6 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_cst_7 : Ref sig .tc := ⟨.hbm, 156, rfl⟩
abbrev main_v81 : Ref sig .tc := ⟨.hbm, 157, rfl⟩
abbrev main_cst_8 : Ref sig .tc := ⟨.hbm, 158, rfl⟩
abbrev main_v82 : Ref sig .tc := ⟨.hbm, 159, rfl⟩
abbrev main_v83 : Ref sig .tc := ⟨.hbm, 160, rfl⟩
abbrev main_cst_9 : Ref sig .tc := ⟨.hbm, 161, rfl⟩
abbrev main_v84 : Ref sig .tc := ⟨.hbm, 162, rfl⟩
abbrev main_v85 : Ref sig .tc := ⟨.hbm, 163, rfl⟩

abbrev nD : Nat := 1
abbrev τ : Topo := Topo.v7x

variable {F : FTy → Type} [FloatOps F]
-- ==== Tail.lean ====
abbrev S4x16x512x1024 : Shape := ⟨4, ![4, 16, 512, 1024]⟩
abbrev S4x8192x1024 : Shape := ⟨3, ![4, 8192, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S1x16x32x1024 : Shape := ⟨4, ![1, 16, 32, 1024]⟩
abbrev S1x512x1024 : Shape := ⟨3, ![1, 512, 1024]⟩
abbrev S1x1x8x1024 : Shape := ⟨4, ![1, 1, 8, 1024]⟩
abbrev S8x1024 : Shape := ⟨2, ![8, 1024]⟩
abbrev S512x1024 : Shape := ⟨2, ![512, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4x16x512x1024, .f32⟩
  | .hbm, ⟨1, _⟩ => ⟨S4x8192x1024, .f32⟩
  | .hbm, ⟨2, _⟩ => ⟨S4x8192x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S4x8192x1024, .f32⟩
  | .hbm, ⟨7, _⟩ => ⟨S1024, .f32⟩
  | .hbm, ⟨8, _⟩ => ⟨S1x1024x1024, .bf16⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S4x8192x1024, .f32⟩
  | .local _ .vmem, ⟨0, _⟩ => ⟨S1x16x32x1024, .f32⟩
  | .local _ .vmem, ⟨1, _⟩ => ⟨S1x16x32x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | _, _ => ⟨S4x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== TailRefIdeal.lean ====
abbrev S4x16x512x1024 : Shape := ⟨4, ![4, 16, 512, 1024]⟩
abbrev S4x8192x1024 : Shape := ⟨3, ![4, 8192, 1024]⟩
abbrev S1x1024 : Shape := ⟨2, ![1, 1024]⟩
abbrev S1x1024x1024 : Shape := ⟨3, ![1, 1024, 1024]⟩
abbrev S4x16x64x8x1024 : Shape := ⟨5, ![4, 16, 64, 8, 1024]⟩
abbrev S4x64x16x8x1024 : Shape := ⟨5, ![4, 64, 16, 8, 1024]⟩
abbrev S1024 : Shape := ⟨1, ![1024]⟩
abbrev S1x1x1024 : Shape := ⟨3, ![1, 1, 1024]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x16x512x1024, .f32⟩
  | .hbm, ⟨1, _⟩ => ⟨S4x8192x1024, .f32⟩
  | .hbm, ⟨2, _⟩ => ⟨S4x8192x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S4x8192x1024, .f32⟩
  | .hbm, ⟨7, _⟩ => ⟨S4x16x64x8x1024, .f32⟩
  | .hbm, ⟨8, _⟩ => ⟨S4x64x16x8x1024, .f32⟩
  | .hbm, ⟨9, _⟩ => ⟨S4x8192x1024, .f32⟩
  | .hbm, ⟨10, _⟩ => ⟨S1024, .f32⟩
  | .hbm, ⟨11, _⟩ => ⟨S1x1x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S1024x1024, .f32⟩
  | .hbm, ⟨17, _⟩ => ⟨S4x8192x1024, .f32⟩
  | .hbm, ⟨18, _⟩ => ⟨S1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | _, _ => ⟨S4x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Router.lean ====
abbrev S32768x1024 : Shape := ⟨2, ![32768, 1024]⟩
abbrev S2x1024 : Shape := ⟨2, ![2, 1024]⟩
abbrev S2x1024x16 : Shape := ⟨3, ![2, 1024, 16]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S16x1024 : Shape := ⟨2, ![16, 1024]⟩
abbrev S16x32768 : Shape := ⟨2, ![16, 32768]⟩
abbrev S512x1024 : Shape := ⟨2, ![512, 1024]⟩
abbrev S16x512 : Shape := ⟨2, ![16, 512]⟩
abbrev S512 : Shape := ⟨1, ![512]⟩
abbrev S512x1 : Shape := ⟨2, ![512, 1]⟩
abbrev S1x512 : Shape := ⟨2, ![1, 512]⟩

abbrev nBuf : Space → Nat
  | .hbm => 11
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x16, .f32⟩
  | .hbm, ⟨3, _⟩ => ⟨S1x1024, .f32⟩
  | .hbm, ⟨4, _⟩ => ⟨S1024, .f32⟩
  | .hbm, ⟨5, _⟩ => ⟨S1x1024x16, .f32⟩
  | .hbm, ⟨6, _⟩ => ⟨S1024x16, .f32⟩
  | .hbm, ⟨7, _⟩ => ⟨S1x1024, .f32⟩
  | .hbm, ⟨8, _⟩ => ⟨S16x1024, .f32⟩
  | .hbm, ⟨9, _⟩ => ⟨S32768x1024, .bf16⟩
  | .hbm, ⟨10, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S16x512, .f32⟩
  | .local _ .vmem, ⟨7, _⟩ => ⟨S16x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S32768x1024 : Shape := ⟨2, ![32768, 1024]⟩
abbrev S2x1024 : Shape := ⟨2, ![2, 1024]⟩
abbrev S2x1024x16 : Shape := ⟨3, ![2, 1024, 16]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x16 : Shape := ⟨3, ![1, 1024, 16]⟩
abbrev S1024x16 : Shape := ⟨2, ![1024, 16]⟩
abbrev S32768x16 : Shape := ⟨2, ![32768, 16]⟩
abbrev S16x32768 : Shape := ⟨2, ![16, 32768]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x16, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x16, .f32⟩
  | .hbm, ⟨22, _⟩ => ⟨S1024x16, .f32⟩
  | .hbm, ⟨23, _⟩ => ⟨S32768x16, .f32⟩
  | .hbm, ⟨24, _⟩ => ⟨S_, .f32⟩
  | .hbm, ⟨25, _⟩ => ⟨S32768, .f32⟩
  | .hbm, ⟨26, _⟩ => ⟨S_, .f32⟩
  | .hbm, ⟨27, _⟩ => ⟨S32768, .f32⟩
  | .hbm, ⟨28, _⟩ => ⟨S32768, .f32⟩
  | .hbm, ⟨29, _⟩ => ⟨S32768x1, .f32⟩
  | .hbm, ⟨30, _⟩ => ⟨S32768x16, .f32⟩
  | .hbm, ⟨31, _⟩ => ⟨S32768x16, .f32⟩
  | .hbm, ⟨32, _⟩ => ⟨S32768x16, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S32768x16, .f32⟩
  | .hbm, ⟨37, _⟩ => ⟨S32768x16, .f32⟩
  | .hbm, ⟨38, _⟩ => ⟨S32768x1024, .bf16⟩
  | .hbm, ⟨39, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.FfnReference.lean ====
/- The experts' feed-forward layer, as plain host operations: what the reference program computes. -/
module

public import proofs.«01_k».proof.Proof.Gen.FfnRefIdeal
public import Idealize.ShloMosaic.Lib.Pipeline.ValueKit

@[expose] public section

noncomputable section

open Idealize.ShloMosaic Idealize.ShloMosaic.TcCoe Idealize.SL.Sem

namespace Cert.FfnRefIdeal.Value

open Cert.FfnRefIdeal Cert.FfnRefIdeal.Gen

/-- The reference's result as a function of its arguments: the tokens by expert, the gates, and the gate, up and down weights. -/
abbrev REF (A0 : FVec Ideal S16x4368x1024 .bf16) (A1 : FVec Ideal S16x4368x128 .f32) (A2 : FVec Ideal
    S2x16x1024x2816 .f32) (A3 : FVec Ideal S2x16x1024x2816 .f32) (A4 : FVec Ideal S2x16x2816x1024 .f32) : FVec Ideal
    S16x4608x1024 .bf16 :=
  truncf .bf16 (pad S16x4608x1024 ![0, 0, 0] ![0, 512, 0] ![0, 0, 0] (mulf (Host.dotGeneral
    dot_S16x4096x2816_S16x2816x1024_S16x4096x1024_2_1_1_2_0_0 none (mulf (mulf (Host.dotGeneral
    dot_S16x4096x1024_S16x1024x2816_S16x4096x2816_2_1_1_2_0_0 none (extf .f32 (extractStridedSlice S16x4096x1024 ![0,
    0, 0] A0 slices_S16x4368x1024_S16x4096x1024_0_0_0) bitsLt_bf16_f32) (shapeCast _ (extractStridedSlice
    S1x16x1024x2816 ![0, 0, 0, 0] A2 slices_S2x16x1024x2816_S1x16x1024x2816_0_0_0_0)
    shapeCasts_S1x16x1024x2816_S16x1024x2816)) (Host.divf (broadcastInDim S16x4096x2816 ![] bcast_S_S16x4096x2816
    (constant S_ .f32 0x3F800000#32)) (addf (broadcastInDim S16x4096x2816 ![] bcast_S_S16x4096x2816 (constant S_ .f32
    0x3F800000#32)) (Host.exp (Host.negf (Host.dotGeneral dot_S16x4096x1024_S16x1024x2816_S16x4096x2816_2_1_1_2_0_0
    none (extf .f32 (extractStridedSlice S16x4096x1024 ![0, 0, 0] A0 slices_S16x4368x1024_S16x4096x1024_0_0_0)
    bitsLt_bf16_f32) (shapeCast _ (extractStridedSlice S1x16x1024x2816 ![0, 0, 0, 0] A2
    slices_S2x16x1024x2816_S1x16x1024x2816_0_0_0_0) shapeCasts_S1x16x1024x2816_S16x1024x2816))))))) (Host.dotGeneral
    dot_S16x4096x1024_S16x1024x2816_S16x4096x2816_2_1_1_2_0_0 none (extf .f32 (extractStridedSlice S16x4096x1024 ![0,
    0, 0] A0 slices_S16x4368x1024_S16x4096x1024_0_0_0) bitsLt_bf16_f32) (shapeCast _ (extractStridedSlice
    S1x16x1024x2816 ![0, 0, 0, 0] A3 slices_S2x16x1024x2816_S1x16x1024x2816_0_0_0_0)
    shapeCasts_S1x16x1024x2816_S16x1024x2816))) (shapeCast _ (extractStridedSlice S1x16x2816x1024 ![0, 0, 0, 0] A4
    slices_S2x16x2816x1024_S1x16x2816x1024_0_0_0_0) shapeCasts_S1x16x2816x1024_S16x2816x1024)) (broadcastInDim
    S16x4096x1024 ![0, 1, 2] bcast_S16x4096x1_S16x4096x1024_0_1_2 (extractStridedSlice S16x4096x1 ![0, 0, 0] A1
    slices_S16x4368x128_S16x4096x1_0_0_0))) (sitofp .f32 (constantI S_ 32 0#32))
    pads_S16x4096x1024_S16x4608x1024_000_05120_000 h_S_) bitsLt_bf16_f32

end Cert.FfnRefIdeal.Value

end
-- ==== Proof.Ffn.lean ====
/- The experts' feed-forward layer: the kernel's result array is the reference's. -/
module

public import proofs.«01_k».proof.Proof.Gen.FfnIdeal.Frame
public import proofs.«01_k».proof.Proof.FfnReference

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The block each window holds at each grid point: point `t` works on row block `t % 9` of expert `t / 9`, and the
    last row block of an expert reads the rows of the one before. -/
theorem idx : ∀ t : Fin cfg0.N, win0_0.index t = ![t.val / 9, min (t.val % 9) 7, 0]
    ∧ win0_1.index t = ![t.val / 9, min (t.val % 9) 7, 0] ∧ win0_2.index t = ![0, t.val / 9, 0, 0]
    ∧ win0_3.index t = ![0, t.val / 9, 0, 0] ∧ win0_4.index t = ![0, t.val / 9, 0, 0]
    ∧ win0_5.index t = ![t.val / 9, t.val % 9, 0] ∧ t.val / 9 < 16 :=
  (by decide +kernel : ∀ t : Fin grid0.N, _)

/-- The expert a grid point works on. -/
abbrev expert (t : Fin cfg0.N) : Fin 16 := ⟨t.val / 9, (idx t).2.2.2.2.2.2⟩

/-- The array row of row `r` of the block a grid point reads. -/
abbrev row (t : Fin cfg0.N) (r : Fin 512) : Fin 4368 := ⟨min (t.val % 9) 7 * 512 + r, by have := r.isLt; omega⟩

/-- The rows of the tokens a grid point works on. -/
def tokenBlock (c : Dev nD) (t : Fin cfg0.N) : FVec Ideal S1x512x1024 .bf16 :=
  fun j => m ((c : Thread nD τ).loc main_arg0) (ix3 (expert t) (row t (j 1)) (j 2))

/-- The rows of the gates a grid point works on. -/
def gateBlock (c : Dev nD) (t : Fin cfg0.N) : FVec Ideal S1x512x128 .f32 :=
  fun j => m ((c : Thread nD τ).loc main_arg1) (ix3 (expert t) (row t (j 1)) (j 2))

/-- What the body finds in the token window. -/
theorem tokens (c : Dev nD) (t : Fin cfg0.N) : X0_0 m c t = tokenBlock m c t := by
  funext j
  unfold X0_0 Pipeline.Window.fill
  rw [dif_pos (moved0_0 t _)]
  blk_ext [iblk, V, idx t, tokenBlock]

/-- What the body finds in the gate window. -/
theorem gates (c : Dev nD) (t : Fin cfg0.N) : X0_1 m c t = gateBlock m c t := by
  funext j
  unfold X0_1 Pipeline.Window.fill
  rw [dif_pos (moved0_1 t _)]
  blk_ext [iblk, V, idx t, gateBlock]

set_option maxHeartbeats 1600000 in
/-- The result array after the run is the reference's result. -/
theorem final (c : Dev nD) : (dats m 0 c).arrAt 5 (cfgs 0).N
    = Cert.FfnRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h1 : t.val % 9 = 8
  · rw [outsAt0_B m c t (by omega) h1]
    frame_out
    pointwise [k0_pay2, Cert.FfnRefIdeal.Value.REF]
    rw [dif_neg (by blk_simp [idx t]; omega)]
    simp [FloatOps.sitofp]
  · rw [outsAt0_A m c t (by omega) h1]
    frame_out
    rw [tokens, gates]
    pointwise [tokenBlock, gateBlock, k0_pay1, k0_pay3, k0_pay4, k0_pay5, k0_pay6, Cert.FfnRefIdeal.Value.REF]
    simp only [Ideal.logistic]
    rw [dif_pos (by blk_simp [idx t]; idx_bounds; omega), Fin.sum_univ_two_halves 1536 1280 rfl]
    blk_point [iblk, V, idx t]

end Cert.FfnIdeal.Value

end
-- ==== Proof.FfnClaim.lean ====
/- The claims about the experts' feed-forward layer: the reference runs, and the kernel's results are the reference's. -/
module

public import proofs.«01_k».proof.Defs
public import proofs.«01_k».proof.Proof.Ffn
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem

namespace Cert.Proof

/-- The reference of the experts' feed-forward layer terminates and leaves its arguments as they were. -/
theorem ffn_reference_frame : Cert.quiescent_FfnRefIdeal := by
  intro m g _
  exact (θ_run Cert.FfnRefIdeal.defs _ _).mono
    (fun r h => ⟨fun c => (h c).2, Idealize.ShloMosaic.sem_eq_zero_of_no_sems (by decide) r.2⟩)
    (Cert.FfnRefIdeal.Value.run m g)

/-- Over the extended reals the kernel of the experts' feed-forward layer and its reference leave equal results. -/
theorem ffn_algebraic : Cert.algebraic_FfnIdeal_FfnRefIdeal := by
  pair_intro
  · run_from Cert.FfnIdeal.Gen.run_main m g
  · run_from Cert.FfnRefIdeal.Value.run m' g'
    exact (Cert.FfnIdeal.Value.final m c).symm

end Cert.Proof

end
-- ==== Proof.GluReference.lean ====
/- The norm and gated linear unit of the convolution module, as plain host operations: what the reference program computes. -/
module

public import proofs.«01_k».proof.Proof.Gen.GluRefIdeal
public import Idealize.ShloMosaic.Lib.Pipeline.ValueKit

@[expose] public section

noncomputable section

open Idealize.ShloMosaic Idealize.ShloMosaic.TcCoe Idealize.SL.Sem

namespace Cert.GluRefIdeal.Value

open Cert.GluRefIdeal Cert.GluRefIdeal.Gen

/-- The reference's result as a function of its arguments: the tokens, the two norm gains, the weights, the bias. -/
abbrev REF (A0 : FVec Ideal S32768x1024 .f32) (A1 : FVec Ideal S2x1024 .f32) (A2 : FVec Ideal S1x1024x2048 .f32)
    (A3 : FVec Ideal S1x2048 .f32) : FVec Ideal S32768x1024 .f32 :=
  mulf (extractStridedSlice S32768x1024 ![0, 0] (addf (Host.dotGeneral
    dot_S32768x1024_S1024x2048_S32768x2048_1_0_0_1_n_n none (mulf (mulf A0 (broadcastInDim S32768x1024 ![0, 1]
    bcast_S32768x1_S32768x1024_0_1 (Host.rsqrt (addf (Host.divf (broadcastInDim S32768x1 ![0] bcast_S32768_S32768x1_0
    (Host.reduceAdd (mulf A0 A0) (constant S_ .f32 0x00000000#32) reducesTo_S32768x1024_S32768_d1 h_S_))
    (broadcastInDim S32768x1 ![] bcast_S_S32768x1 (constant S_ .f32 0x44800000#32))) (broadcastInDim S32768x1 ![]
    bcast_S_S32768x1 (constant S_ .f32 0x358637BD#32)))))) (broadcastInDim S32768x1024 ![0, 1]
    bcast_S1x1024_S32768x1024_0_1 (broadcastInDim S1x1024 ![1] bcast_S1024_S1x1024_1 (shapeCast _
    (extractStridedSlice S1x1024 ![0, 0] A1 slices_S2x1024_S1x1024_0_0) shapeCasts_S1x1024_S1024)))) (shapeCast _ A2
    shapeCasts_S1x1024x2048_S1024x2048)) (broadcastInDim S32768x2048 ![0, 1] bcast_S1x2048_S32768x2048_0_1
    (broadcastInDim S1x2048 ![1] bcast_S2048_S1x2048_1 (shapeCast _ A3 shapeCasts_S1x2048_S2048))))
    slices_S32768x2048_S32768x1024_0_0) (Host.divf (broadcastInDim S32768x1024 ![] bcast_S_S32768x1024 (constant S_
    .f32 0x3F800000#32)) (addf (broadcastInDim S32768x1024 ![] bcast_S_S32768x1024 (constant S_ .f32 0x3F800000#32))
    (Host.exp (Host.negf (extractStridedSlice S32768x1024 ![0, 1024] (addf (Host.dotGeneral
    dot_S32768x1024_S1024x2048_S32768x2048_1_0_0_1_n_n none (mulf (mulf A0 (broadcastInDim S32768x1024 ![0, 1]
    bcast_S32768x1_S32768x1024_0_1 (Host.rsqrt (addf (Host.divf (broadcastInDim S32768x1 ![0] bcast_S32768_S32768x1_0
    (Host.reduceAdd (mulf A0 A0) (constant S_ .f32 0x00000000#32) reducesTo_S32768x1024_S32768_d1 h_S_))
    (broadcastInDim S32768x1 ![] bcast_S_S32768x1 (constant S_ .f32 0x44800000#32))) (broadcastInDim S32768x1 ![]
    bcast_S_S32768x1 (constant S_ .f32 0x358637BD#32)))))) (broadcastInDim S32768x1024 ![0, 1]
    bcast_S1x1024_S32768x1024_0_1 (broadcastInDim S1x1024 ![1] bcast_S1024_S1x1024_1 (shapeCast _
    (extractStridedSlice S1x1024 ![0, 0] A1 slices_S2x1024_S1x1024_0_0) shapeCasts_S1x1024_S1024)))) (shapeCast _ A2
    shapeCasts_S1x1024x2048_S1024x2048)) (broadcastInDim S32768x2048 ![0, 1] bcast_S1x2048_S32768x2048_0_1
    (broadcastInDim S1x2048 ![1] bcast_S2048_S1x2048_1 (shapeCast _ A3 shapeCasts_S1x2048_S2048))))
    slices_S32768x2048_S32768x1024_0_1024)))))

end Cert.GluRefIdeal.Value

end
-- ==== Proof.Glu.lean ====
/- The norm and gated linear unit: the kernel's result array is the reference's. -/
module

public import proofs.«01_k».proof.Proof.Gen.GluIdeal.Frame
public import proofs.«01_k».proof.Proof.GluReference

@[expose] public section

set_option maxRecDepth 16384

noncomputable section

open Idealize.ShloMosaic Idealize.ShloMosaic.TcCoe Idealize.SL.Sem
open Idealize.ShloMosaic.Pipeline (Dat)

namespace Cert.GluIdeal.Value

open Cert.GluIdeal Cert.GluIdeal.Gen

variable (m : (ℓ : Loc nD τ sig) → Buf (Elt Ideal) ℓ)

/-- The block each window holds at each grid point. -/
theorem idx : ∀ t : Fin cfg0.N, win0_0.index t = ![t.val, 0] ∧ win0_1.index t = ![0, 0] ∧ win0_2.index t = ![0, 0]
    ∧ win0_3.index t = ![0, 1] ∧ win0_4.index t = ![0, 0] ∧ win0_5.index t = ![0, 1] ∧ win0_6.index t = ![t.val, 0] :=
  (by decide +kernel : ∀ t : Fin grid0.N, _)

/-- The result array after the run is the reference's result. -/
theorem final (c : Dev nD) : (dats m 0 c).arrAt 6 (cfgs 0).N
    = Cert.GluRefIdeal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  pointwise [k0_pay1, Cert.GluRefIdeal.Value.REF]
  simp only [Ideal.logistic]
  blk_point [iblk, V, idx t]

end Cert.GluIdeal.Value

end
-- ==== Proof.GluClaim.lean ====
/- The claims about the norm and gated linear unit: the reference runs, and the kernel's results are the reference's. -/
module

public import proofs.«01_k».proof.Defs
public import proofs.«01_k».proof.Proof.Glu
public import proofs.«01_k».proof.Proof.Gen.GluRefIdeal.Run
public import Idealize.ShloMosaic.Lib.Claim

@[expose] public section

set_option maxRecDepth 16384

noncomputable section

open Idealize.ShloMosaic Idealize.ShloMosaic.TcCoe Idealize.SL.Sem

namespace Cert.Proof

/-- The reference of the norm and gated linear unit terminates and leaves its arguments as they were. -/
theorem glu_reference_frame : Cert.quiescent_GluRefIdeal := by
  intro m g _
  exact (θ_run Cert.GluRefIdeal.defs _ _).mono
    (fun r h => ⟨fun c => (h c).2, Idealize.ShloMosaic.sem_eq_zero_of_no_sems (by decide) r.2⟩)
    (Cert.GluRefIdeal.Value.run m g)

/-- Over the extended reals the kernel of the norm and gated linear unit and its reference leave equal results. -/
theorem glu_algebraic : Cert.algebraic_GluIdeal_GluRefIdeal := by
  pair_intro
  · run_from Cert.GluIdeal.Gen.run_main m g
  · run_from Cert.GluRefIdeal.Value.run m' g'
    exact (Cert.GluIdeal.Value.final m c).symm

end Cert.Proof

end
-- ==== Proof.ConfConv.lean ====
/- The depthwise convolution inside the kernel: what its loop leaves in the scratch array. -/
module

public import proofs.«01_k».proof.Proof.Gen.ConfIdeal.Frame
public import proofs.«01_k».proof.Proof.Gen.ConfIdeal.Loops
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConfIdeal.Value

open Cert.ConfIdeal Cert.ConfIdeal.Gen

/-- Where the loop reads and writes the scratch arrays: at trip `k`, tap `j`. -/
theorem off1 : ∀ (k : Fin k0_t1_loop.trips) (j : Fin 31), k0_off1 k (BitVec.ofNat 32 j) = ![16 * (k : ℕ) + 1 + j, 0, 0] := by
  decide +kernel

theorem off2 : ∀ k : Fin k0_t1_loop.trips, k0_off2 k = ![16 * (k : ℕ), 0, 0] := by
  decide +kernel

/-- An entry of an array of three axes, by the number of its row: zero past the last row. -/
def row {n : ℕ} (f : (⟨3, ![n, 8, 128]⟩ : Shape).Idx → Ideal .f32) (r : ℕ) (s : Fin 8) (l : Fin 128) : Ideal .f32 :=
  if h : r < n then f (ix3 ⟨r, h⟩ s l) else 0

/-- A load of rows from `o` on, read at an entry. -/
theorem load_at {n : ℕ} {sig : RefSig} {κ : Kind} {sp : Space} (v : View sig κ sp (⟨3, ![n, 8, 128]⟩ : Shape) .f32) (f : v.ty.Contents (Elt Ideal))
    (a : ℕ) (off : Fin 3 → ℕ) (o : ℕ) (ho : off = ![o, 0, 0])
    (inb : ∀ x : Fin 3, off x + (![a, 8, 128] : Fin 3 → ℕ) x ≤ (![n, 8, 128] : Fin 3 → ℕ) x) (q : Fin a) (s : Fin 8) (l : Fin 128) :
    v.readAt (Elt Ideal) (Rect.unit (s := ⟨3, ![n, 8, 128]⟩) off ![a, 8, 128] inb).toLoadRect f (ix3 q s l) = row (v.read (Elt Ideal) f) (o + q) s l := by
  subst ho
  have h0 := inb 0
  change o + a ≤ n at h0
  rw [View.readAt_apply, row, dif_pos (by omega)]
  refine congrArg (v.read (Elt Ideal) f) (funext fun b => Fin.ext ?_)
  fin_cases b
  · show o + 1 * (q : ℕ) = o + (q : ℕ); omega
  · show 0 + 1 * (s : ℕ) = (s : ℕ); omega
  · show 0 + 1 * (l : ℕ) = (l : ℕ); omega

variable (𝒱 : Variants) (c : Dev nD) (bd : Option 𝒱.V) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x512x1024 .f32) (harg5 : arg5.IsWhole) (arg6 : Memref sig .tc .vmem S32x8x128 .f32) (harg6 : arg6.IsWhole) (arg7 : Memref sig .tc .vmem S1x8x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S544x8x128 .f32) (harg13 : arg13.IsWhole) (arg14 : Memref sig .tc .vmem S512x8x128 .f32) (harg14 : arg14.IsWhole) (X_arg6 : BufTy.Contents (Elt Ideal) arg6.view.ty) (X_arg7 : BufTy.Contents (Elt Ideal) arg7.view.ty) (X_arg13 : BufTy.Contents (Elt Ideal) arg13.view.ty)

set_option maxHeartbeats 4000000 in
/-- One trip of the loop writes sixteen rows: the bias plus the thirty-one taps' products. -/
theorem trip_at (k : Fin k0_t1_loop.trips) : ∃ inb w, tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg6 X_arg7 X_arg13 k
    = [(⟨Rect.unit (k0_off2 k) S16x8x128.size inb, w⟩ : View.Piece (Elt Ideal) S512x8x128 .f32)]
      ∧ ∀ (q : Fin 16) (s : Fin 8) (l : Fin 128), w (ix3 q s l) = row (arg7.view.read (Elt Ideal) X_arg7) 0 s l
        + ∑ j ∈ Finset.range 31, row (arg13.view.read (Elt Ideal) X_arg13) (16 * (k : ℕ) + 1 + j + q) s l * row (arg6.view.read (Elt Ideal) X_arg6) j s l := by
  unfold tripL_k0_t1 trip_k0_t1
  refine ⟨_, _, rfl, fun q s l => ?_⟩
  pointwise [k0_pay15, k0_pay11, k0_pay10, k0_pay9, k0_pay8, k0_pay7, k0_pay6, k0_pay5, k0_pay4, k0_pay3, k0_pay2, trip_k0_t1.sl.r_13, trip_k0_t1.sl.r_12, trip_k0_t1.sl.r_11, trip_k0_t1.sl.r_10, trip_k0_t1.sl.r_9,
    trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r]
  have e : ∀ (j : ℕ) (hj : j < 31) (inb : ∀ x : Fin 3, k0_off1 k (BitVec.ofNat 32 j) x + (![16, 8, 128] : Fin 3 → ℕ) x ≤ (![544, 8, 128] : Fin 3 → ℕ) x),
      arg13.view.readAt (Elt Ideal) (Rect.unit (s := S544x8x128) (k0_off1 k (BitVec.ofNat 32 j)) ![16, 8, 128] inb).toLoadRect X_arg13 (ix3 q s l)
        = row (arg13.view.read (Elt Ideal) X_arg13) (16 * (k : ℕ) + 1 + j + q) s l :=
    fun j hj inb => load_at arg13.view X_arg13 16 _ _ (off1 k ⟨j, hj⟩) inb q s l
  have w : ∀ (j : ℕ) (inb : ∀ x : Fin 3, (![j, 0, 0] : Fin 3 → ℕ) x + (![1, 8, 128] : Fin 3 → ℕ) x ≤ (![32, 8, 128] : Fin 3 → ℕ) x),
      arg6.view.readAt (Elt Ideal) (Rect.unit (s := S32x8x128) ![j, 0, 0] ![1, 8, 128] inb).toLoadRect X_arg6 (ix3 0 s l)
        = row (arg6.view.read (Elt Ideal) X_arg6) j s l :=
    fun j inb => load_at arg6.view X_arg6 1 _ _ rfl inb 0 s l
  have b : ∀ (inb : ∀ x : Fin 3, (![0, 0, 0] : Fin 3 → ℕ) x + (![1, 8, 128] : Fin 3 → ℕ) x ≤ (![1, 8, 128] : Fin 3 → ℕ) x),
      arg7.view.readAt (Elt Ideal) (Rect.unit (s := S1x8x128) ![0, 0, 0] ![1, 8, 128] inb).toLoadRect X_arg7 (ix3 0 s l)
        = row (arg7.view.read (Elt Ideal) X_arg7) 0 s l :=
    fun inb => load_at arg7.view X_arg7 1 _ _ rfl inb 0 s l
  simp (disch := decide) only [e, w, b, Finset.sum_range_succ, Finset.sum_range_zero, zero_add, ← add_assoc]

/-- After `n` trips the first `16 n` rows of the scratch array hold the convolution. -/
theorem trips_at (f : arg14.view.ty.Contents (Elt Ideal)) (n : ℕ) (hn : n ≤ 32) (r : Fin 512) (hr : (r : ℕ) < 16 * n) (s : Fin 8) (l : Fin 128) :
    arg14.view.read (Elt Ideal) (arg14.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg6 X_arg7 X_arg13 n)) (ix3 r s l)
      = row (arg7.view.read (Elt Ideal) X_arg7) 0 s l
        + ∑ j ∈ Finset.range 31, row (arg13.view.read (Elt Ideal) X_arg13) (r + 1 + j) s l * row (arg6.view.read (Elt Ideal) X_arg6) j s l := by
  induction n with
  | zero => omega
  | succ n ih =>
    have ht : k0_t1_loop.trips = 32 := by decide +kernel
    have hp := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg6 X_arg7 X_arg13 ⟨n, by omega⟩
    dsimp only at hp
    rw [hp]
    obtain ⟨inb, w, hw, hat⟩ := trip_at 𝒱 c bd i arg2 harg2 arg3 harg3 arg4 harg4 arg5 harg5 arg6 harg6 arg7 harg7 arg8 harg8 arg9 harg9 arg10 harg10 arg11 harg11 arg12 harg12 arg13 harg13 arg14 harg14 X_arg6 X_arg7 X_arg13 ⟨n, by omega⟩
    rw [hw, List.singleton_append]
    by_cases h : (r : ℕ) < 16 * n
    · rw [View.read_writes_cons_unit_of_not_mem arg14.view f inb w _ (ix3 r s l) (off2 _) 0 (.inl h)]
      exact ih (by omega) h
    · rw [View.read_writes_cons_unit_of_mem arg14.view f inb w _ (ix3 r s l) (ix3 ⟨(r : ℕ) - 16 * n, by omega⟩ s l) (off2 _) (fun a => by
        fin_cases a
        · show (r : ℕ) = 16 * n + ((r : ℕ) - 16 * n); omega
        · show (s : ℕ) = 0 + (s : ℕ); omega
        · show (l : ℕ) = 0 + (l : ℕ); omega)]
      rw [hat]
      refine congrArg (_ + ·) (Finset.sum_congr rfl fun j _ => ?_)
      congr 2
      show 16 * n + 1 + j + ((r : ℕ) - 16 * n) = _
      omega

end Cert.ConfIdeal.Value
end
-- ==== Proof.Rows.lean ====
/- Rows written over the first rows of an array. -/
module

public import Idealize.ShloMosaic.Lib.Pipeline.ValueKit
public import Idealize.ShloMosaic.Lib.Routing.OpsPair
public import Idealize.ShloMosaic.Lib.Routing.OpsSet

@[expose] public section

set_option maxRecDepth 16384

noncomputable section

open Idealize.ShloMosaic Idealize.SL.Sem
open Idealize.ShloMosaic.Routing

namespace Cert.Rows

/-- Where an update of consecutive whole rows from row 0 on lands: at its own place. -/
theorem lands_rows {R C N : ℕ} (d : ScatterDims (shape2 R C) (shape1 1) (shape2 N C)) (hu : d.updateWindowDims = [0, 1]) (hi : d.insertedWindowDims = [])
    (hs : d.scatterDimsToOperandDims = [0]) (w : IVec (shape1 1) 32) (hw : ∀ i, (w i).toInt = 0) (a : Fin N) (e : Fin C) (r : Fin R) (q : Fin C) :
    d.resultIdx? (ix2 a e) w = some (ix2 r q) ↔ (a : ℕ) = r ∧ e = q := by
  obtain ⟨ud, iw, sd, iv, wf⟩ := d
  dsimp only at hu hi hs
  subst hu hi hs
  have s0 : ScatterDims.start ⟨_, _, _, iv, wf⟩ (ix2 a e) w 0 = 0 := by
    unfold ScatterDims.start
    rw [dif_pos (List.mem_singleton.2 rfl)]
    exact hw _
  have s1 : ScatterDims.start ⟨_, _, _, iv, wf⟩ (ix2 a e) w 1 = 0 := by
    unfold ScatterDims.start
    exact dif_neg fun h => absurd (List.mem_singleton.1 h) (by decide : (1 : Fin 2) ≠ 0)
  have w0 : ScatterDims.window ⟨_, _, _, iv, wf⟩ (ix2 a e) 0 = a := rfl
  have w1 : ScatterDims.window ⟨_, _, _, iv, wf⟩ (ix2 a e) 1 = e := rfl
  refine (resultIdx?_ix2 _ _ _ r q).trans ?_
  rw [s0, s1, w0, w1, Fin.ext_iff]
  omega

/-- Rows written over the first rows of an array: each such row reads as what was written. -/
theorem rows_set {α : Type} {R C N : ℕ} (d : ScatterDims (shape2 R C) (shape1 1) (shape2 N C)) (hu : d.updateWindowDims = [0, 1]) (hi : d.insertedWindowDims = [])
    (hs : d.scatterDimsToOperandDims = [0]) (x : (shape2 R C).Idx → α) (w : IVec (shape1 1) 32) (hw : ∀ i, (w i).toInt = 0) (u : (shape2 N C).Idx → α)
    (r : Fin R) (h : (r : ℕ) < N) (q : Fin C) : Host.scatter d (fun _ b => b) x w u (ix2 r q) = u (ix2 ⟨r, h⟩ q) := by
  refine scatter_set_hit d x w u _ _ (fun k hk => ?_) (ix2 ⟨r, h⟩ q) ((lands_rows d hu hi hs w hw _ _ _ _).2 ⟨rfl, rfl⟩)
  rw [eq_ix2 k] at hk ⊢
  obtain ⟨h0, h1⟩ := (lands_rows d hu hi hs w hw _ _ _ _).1 hk
  exact congrArg u (congrArg₂ ix2 (Fin.ext h0) h1)

end Cert.Rows
end
-- ==== Proof.ConfTaps.lean ====
/- The taps of the depthwise convolution as the kernel holds them: 31 rows written over the first rows of 32 rows of zeros. -/
module

public import proofs.«01_k».proof.Proof.ConfConv
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.ConfIdeal.Value

open Cert.ConfIdeal Cert.ConfIdeal.Gen

variable (m : (ℓ : Loc nD τ sig) → Buf (Elt Ideal) ℓ)

/-- The taps as the call is given them. -/
theorem taps_V (c : Dev nD) : V m c main_v10
    = (shapeCast S32x8x128 (Host.scatter scatter_S32x1024_S1_S31x1024_01_n_0_0 (fun _ b => b)
        (broadcastInDim S32x1024 ![] bcast_S_S32x1024 (constant (F := Ideal) S_ .f32 0x00000000#32))
        (broadcastInDim S1 ![] bcast_S_S1 (constantI S_ 32 0#32))
        (shapeCast S31x1024 (m ((c : Thread nD τ).loc main_arg2)) shapeCasts_S1x31x1024_S31x1024)) shapeCasts_S32x1024_S32x8x128 : FVec Ideal S32x8x128 .f32) := by
  unfold V
  after_results
  try rfl

/-- Rows of 1024 as rows of 8 by 128. -/
theorem fold_at (X : FVec Ideal S32x1024 .f32) (j : Fin 32) (s : Fin 8) (l : Fin 128) :
    shapeCast S32x8x128 X shapeCasts_S32x1024_S32x8x128 (ix3 j s l) = X (ix2 j ⟨128 * s + l, by omega⟩) := by
  pointwise []
  blk_point []

/-- The first axis of one entry dropped. -/
theorem flat_at (X : FVec Ideal S1x31x1024 .f32) (j : Fin 31) (d : Fin 1024) :
    shapeCast S31x1024 X shapeCasts_S1x31x1024_S31x1024 (ix2 j d) = X (ix3 0 j d) := by
  pointwise []

/-- One entry of them. -/
theorem taps_V_at (c : Dev nD) (j : Fin 32) (hj : (j : ℕ) < 31) (s : Fin 8) (l : Fin 128) :
    V m c main_v10 (ix3 j s l) = m ((c : Thread nD τ).loc main_arg2) (ix3 0 ⟨j, hj⟩ ⟨128 * s + l, by omega⟩) := by
  rw [taps_V]
  refine (fold_at _ j s l).trans ((Cert.Rows.rows_set _ rfl rfl rfl _ _ (fun _ => ?_) _ j hj _).trans (flat_at _ _ _))
  rfl

end Cert.ConfIdeal.Value
end
-- ==== Proof.ConfReference.lean ====
/- The depthwise convolution, its norm and the second projection of the convolution module, as plain host operations: what the reference program computes. -/
module

public import proofs.«01_k».proof.Proof.Gen.ConfRefIdeal
public import proofs.«01_k».proof.Proof.Gen.ConfRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.ConfRefIdeal.Value

open Cert.ConfRefIdeal Cert.ConfRefIdeal.Gen

/-- Entry `n` of the sequence with fifteen zeros before it and after it. -/
def padded (A0 : FVec Ideal S4x8192x1024 .f32) (b : Fin 4) (n : ℕ) (d : Fin 1024) : Ideal .f32 :=
  if h : 15 ≤ n ∧ n < 8207 then A0 (ix3 b ⟨n - 15, by omega⟩ d) else 0

/-- Tap `j` of a channel. -/
def tap (A2 : FVec Ideal S1x31x1024 .f32) (j : ℕ) (d : Fin 1024) : Ideal .f32 :=
  if h : j < 31 then A2 (ix3 0 ⟨j, h⟩ d) else 0

/-- One entry of the depthwise convolution with its bias. -/
def convAt (A0 : FVec Ideal S4x8192x1024 .f32) (A2 : FVec Ideal S1x31x1024 .f32) (A3 : FVec Ideal S1x1024 .f32) (b : Fin 4) (n : Fin 8192) (d : Fin 1024) : Ideal .f32 :=
  A3 (ix2 0 d) + ∑ j ∈ Finset.range 31, padded A0 b (j + n) d * tap A2 j d

/-- The depthwise convolution with its bias. -/
def CONV (A0 : FVec Ideal S4x8192x1024 .f32) (A2 : FVec Ideal S1x31x1024 .f32) (A3 : FVec Ideal S1x1024 .f32) : FVec Ideal S4x8192x1024 .f32 :=
  fun y => convAt A0 A2 A3 (y 0) (y 1) (y 2)

theorem CONV_at (A0 : FVec Ideal S4x8192x1024 .f32) (A2 : FVec Ideal S1x31x1024 .f32) (A3 : FVec Ideal S1x1024 .f32) (b : Fin 4) (n : Fin 8192) (d : Fin 1024) :
    CONV A0 A2 A3 (ix3 b n d) = convAt A0 A2 A3 b n d := rfl

/-- The reference's padded sequence, read at an entry. -/
theorem v2_at (V0 : Valuation τ sig (Elt Ideal)) (b : Fin 4) (n : Fin 8222) (d : Fin 1024) :
    res_main_v2 V0 (ix3 b n d) = padded (V0 (Proc.devRef .tc main_arg0)) b n d := by
  have hz : (FloatOps.sitofp (F := Ideal) FTy.f32 (0#32) : Ideal .f32) = 0 := by simp [FloatOps.sitofp]
  by_cases h : 15 ≤ (n : ℕ) ∧ (n : ℕ) < 8207
  · pointwise [res_main_v2, padded]
    rw [dif_pos h, dif_pos]
    intro a
    fin_cases a
    · exact ⟨Nat.zero_le _, Nat.mod_one _, by show ((b : ℕ) - 0) / 1 < 4; omega⟩
    · exact ⟨h.1, Nat.mod_one _, by show ((n : ℕ) - 15) / 1 < 8192; omega⟩
    · exact ⟨Nat.zero_le _, Nat.mod_one _, by show ((d : ℕ) - 0) / 1 < 1024; omega⟩
  · pointwise [res_main_v2, padded]
    rw [dif_neg h, dif_neg, hz]
    intro ha
    have h1 := ha 1
    change 15 ≤ (n : ℕ) ∧ ((n : ℕ) - 15) % 1 = 0 ∧ ((n : ℕ) - 15) / 1 < 8192 at h1
    omega

/-- The reference's taps, read at an entry. -/
theorem v0_at (V0 : Valuation τ sig (Elt Ideal)) (j : Fin 31) (d : Fin 1024) :
    res_main_v0 V0 (ix2 j d) = tap (V0 (Proc.devRef .tc main_arg2)) j d := by
  rw [tap, dif_pos j.isLt]
  pointwise [res_main_v0]
  blk_ext

set_option maxHeartbeats 4000000 in
/-- The reference's sum of shifted products, read at an entry. -/
theorem conv_at (V0 : Valuation τ sig (Elt Ideal)) (b : Fin 4) (n : Fin 8192) (d : Fin 1024) :
    res_main_v221 V0 (ix3 b n d) = convAt (V0 (Proc.devRef .tc main_arg0)) (V0 (Proc.devRef .tc main_arg2)) (V0 (Proc.devRef .tc main_arg3)) b n d := by
  pointwise [res_main_v221, res_main_v155, res_main_v78]
  rw [add_comm]
  simp only [convAt, Finset.sum_range_succ, Finset.sum_range_zero, _root_.zero_add]
  simp only [v2_at, v0_at]
  rfl

/-- The reference's sum of shifted products is the convolution. -/
theorem conv_eq (V0 : Valuation τ sig (Elt Ideal)) :
    res_main_v221 V0 = CONV (V0 (Proc.devRef .tc main_arg0)) (V0 (Proc.devRef .tc main_arg2)) (V0 (Proc.devRef .tc main_arg3)) := by
  funext y
  exact (congrArg (res_main_v221 V0) (eq_ix3 y)).trans (conv_at V0 (y 0) (y 1) (y 2))

/-- What follows the convolution: centred, -/
abbrev centred (Y : FVec Ideal S4x8192x1024 .f32) : FVec Ideal S4x8192x1024 .f32 :=
  subf Y (broadcastInDim S4x8192x1024 ![0, 1, 2] bcast_S4x8192x1_S4x8192x1024_0_1_2 (Host.divf (broadcastInDim S4x8192x1 ![0, 1]
    bcast_S4x8192_S4x8192x1_0_1 (Host.reduceAdd Y (constant S_ .f32 0x00000000#32) reducesTo_S4x8192x1024_S4x8192_d2 h_S_))
    (broadcastInDim S4x8192x1 ![] bcast_S_S4x8192x1 (constant S_ .f32 0x44800000#32))))

/-- normed, -/
abbrev normed (Y : FVec Ideal S4x8192x1024 .f32) (A4 : FVec Ideal S1x1024 .f32) (A5 : FVec Ideal S1x1024 .f32) : FVec Ideal S4x8192x1024 .f32 :=
  addf (mulf (mulf (centred Y) (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf (centred Y) (centred Y)) (constant S_ .f32 0x00000000#32)
    reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x3727C5AC#32)))))) (broadcastInDim S4x8192x1024 ![0, 1, 2]
    bcast_S1x1x1024_S4x8192x1024_0_1_2 (broadcastInDim S1x1x1024 ![2] bcast_S1024_S1x1x1024_2 (shapeCast _ A4 shapeCasts_S1x1024_S1024))))
    (broadcastInDim S4x8192x1024 ![0, 1, 2] bcast_S1x1x1024_S4x8192x1024_0_1_2 (broadcastInDim S1x1x1024 ![2] bcast_S1024_S1x1x1024_2
    (shapeCast _ A5 shapeCasts_S1x1024_S1024)))

/-- through the gate, the second projection, and added to the residual. -/
abbrev OUT (Y : FVec Ideal S4x8192x1024 .f32) (A1 : FVec Ideal S4x8192x1024 .f32) (A4 : FVec Ideal S1x1024 .f32) (A5 : FVec Ideal S1x1024 .f32)
    (A6 : FVec Ideal S1x1024x1024 .f32) (A7 : FVec Ideal S1x1024 .f32) : FVec Ideal S4x8192x1024 .f32 :=
  addf A1 (addf (Host.dotGeneral dot_S4x8192x1024_S1024x1024_S4x8192x1024_2_0_01_1_n_n none (mulf (normed Y A4 A5) (Host.divf
    (broadcastInDim S4x8192x1024 ![] bcast_S_S4x8192x1024 (constant S_ .f32 0x3F800000#32)) (addf (broadcastInDim
    S4x8192x1024 ![] bcast_S_S4x8192x1024 (constant S_ .f32 0x3F800000#32)) (Host.exp (Host.negf (normed Y A4 A5))))))
    (shapeCast _ A6 shapeCasts_S1x1024x1024_S1024x1024)) (broadcastInDim S4x8192x1024 ![0, 1, 2] bcast_S1x1x1024_S4x8192x1024_0_1_2
    (broadcastInDim S1x1x1024 ![2] bcast_S1024_S1x1x1024_2 (shapeCast _ A7 shapeCasts_S1x1024_S1024))))

end Cert.ConfRefIdeal.Value

end
-- ==== Proof.Conf.lean ====
/- The depthwise convolution, its norm and the second projection: the kernel's result array is the reference's. -/
module

public import proofs.«01_k».proof.Proof.ConfTaps
public import proofs.«01_k».proof.Proof.ConfReference

@[expose] public section

set_option maxRecDepth 16384

noncomputable section

open Idealize.ShloMosaic Idealize.ShloMosaic.TcCoe Idealize.SL.Sem
open Idealize.ShloMosaic.Pipeline (Dat)

namespace Cert.ConfIdeal.Value

open Cert.ConfIdeal Cert.ConfIdeal.Gen
open Cert.ConfRefIdeal.Value (padded tap convAt CONV CONV_at OUT normed centred)

variable (m : (ℓ : Loc nD τ sig) → Buf (Elt Ideal) ℓ)

/-- Which blocks the windows hold at the point of batch and row block. -/
theorem idx : ∀ t : Fin cfg0.N, win0_0.index t = ![(t : ℕ) / 16, (t : ℕ) % 16, 0] ∧ win0_1.index t = ![(t : ℕ) / 16, 32 * ((t : ℕ) % 16) - 1, 0]
    ∧ win0_2.index t = ![(t : ℕ) / 16, min (32 * ((t : ℕ) % 16) + 32) 511, 0] ∧ win0_3.index t = ![(t : ℕ) / 16, (t : ℕ) % 16, 0] ∧ win0_4.index t = ![0, 0, 0] ∧ win0_5.index t = ![0, 0, 0]
    ∧ win0_6.index t = ![0, 0] ∧ win0_7.index t = ![0, 0] ∧ win0_8.index t = ![0, 0] ∧ win0_9.index t = ![0, 0]
    ∧ win0_10.index t = ![(t : ℕ) / 16, (t : ℕ) % 16, 0] ∧ (grid0.coords t 1 : ℕ) = (t : ℕ) % 16 :=
  (by decide +kernel : ∀ t : Fin grid0.N, _)

/-- The taps' one block is the whole array. -/
theorem taps_blk (t : Fin cfg0.N) (A : FVec Ideal S32x8x128 .f32) (j : Fin 32) (s : Fin 8) (l : Fin 128) :
    (win0_4.blk t).view.read (Elt Ideal) A (ix3 j s l) = A (ix3 j s l) := by
  blk_point [idx t]

/-- The taps the kernel holds. -/
theorem taps_at (c : Dev nD) (t : Fin cfg0.N) (j : ℕ) (hj : j < 31) (s : Fin 8) (l : Fin 128) :
    row (iblk m c 4 t) j s l = tap (m ((c : Thread nD τ).loc main_arg2)) j ⟨128 * s + l, by omega⟩ := by
  rw [row, tap, dif_pos (by omega), dif_pos hj]
  unfold iblk
  exact (taps_blk t _ ⟨j, _⟩ s l).trans (taps_V_at m c ⟨j, _⟩ hj s l)

/-- The bias the kernel holds. -/
theorem bias_at (c : Dev nD) (t : Fin cfg0.N) (s : Fin 8) (l : Fin 128) :
    row (iblk m c 5 t) 0 s l = (m ((c : Thread nD τ).loc main_arg3)) (ix2 0 ⟨128 * s + l, by omega⟩) := by
  rw [row, dif_pos (by omega)]
  blk_point [iblk, V, idx t]

/-- The rows before the block, zero at the first. -/
theorem before_at (c : Dev nD) (t : Fin cfg0.N) (r : Fin 16) (hr : 1 ≤ (r : ℕ)) (s : Fin 8) (l : Fin 128) :
    k0_pay12 (F := Ideal) (grid0.coords t) (iblk m c 1 t) (ix3 r s l)
      = padded (m ((c : Thread nD τ).loc main_arg0)) ⟨(t : ℕ) / 16, by have := t.isLt; change (t : ℕ) < 64 at this; omega⟩ (512 * ((t : ℕ) % 16) + r - 1) ⟨128 * s + l, by omega⟩ := by
  rw [padded]
  pointwise [k0_pay12]
  by_cases h : (t : ℕ) % 16 = 0
  · rw [(idx t).2.2.2.2.2.2.2.2.2.2.2, h, dif_neg (by omega)]
    rfl
  · rw [dif_pos (by omega), show Scalar.cmpi .sgt (BitVec.ofNat 32 ((grid0.coords t 1 : Fin _) : ℕ)) 0#32 = 1#1 from by
      rw [(idx t).2.2.2.2.2.2.2.2.2.2.2]
      generalize hq : (t : ℕ) % 16 = q at h
      have hq16 : q < 16 := by omega
      clear hq
      interval_cases q <;> first | rfl | exact absurd rfl h]
    blk_point [iblk, V, idx t]

theorem block_at (c : Dev nD) (t : Fin cfg0.N) (r : Fin 512) (s : Fin 8) (l : Fin 128) :
    k0_pay13 (F := Ideal) (iblk m c 0 t) (ix3 r s l)
      = padded (m ((c : Thread nD τ).loc main_arg0)) ⟨(t : ℕ) / 16, by have := t.isLt; change (t : ℕ) < 64 at this; omega⟩ (512 * ((t : ℕ) % 16) + r + 15) ⟨128 * s + l, by omega⟩ := by
  rw [padded, dif_pos (by omega)]
  pointwise [k0_pay13]
  blk_point [iblk, V, idx t]

theorem after_at (c : Dev nD) (t : Fin cfg0.N) (r : Fin 16) (hr : (r : ℕ) < 15) (s : Fin 8) (l : Fin 128) :
    k0_pay14 (F := Ideal) (grid0.coords t) (iblk m c 2 t) (ix3 r s l)
      = padded (m ((c : Thread nD τ).loc main_arg0)) ⟨(t : ℕ) / 16, by have := t.isLt; change (t : ℕ) < 64 at this; omega⟩ (512 * ((t : ℕ) % 16) + r + 527) ⟨128 * s + l, by omega⟩ := by
  rw [padded]
  pointwise [k0_pay14]
  by_cases h : (t : ℕ) % 16 = 15
  · rw [(idx t).2.2.2.2.2.2.2.2.2.2.2, h, dif_neg (by omega)]
    rfl
  · rw [dif_pos (by omega), show Scalar.cmpi .slt (BitVec.ofNat 32 ((grid0.coords t 1 : Fin _) : ℕ)) 15#32 = 1#1 from by
      rw [(idx t).2.2.2.2.2.2.2.2.2.2.2]
      generalize hq : (t : ℕ) % 16 = q at h
      have hq16 : q < 16 := by omega
      clear hq
      interval_cases q <;> first | rfl | exact absurd rfl h]
    blk_point [iblk, V, idx t]

/-- An array written in three parts, read by row. -/
theorem three_at {sig : RefSig} {κ : Kind} {sp : Space} (v : View sig κ sp S544x8x128 .f32) (f : v.ty.Contents (Elt Ideal))
    (A : FVec Ideal S16x8x128 .f32) (B : FVec Ideal S512x8x128 .f32) (C : FVec Ideal S16x8x128 .f32)
    (hA : ∀ a, ![0, 0, 0] a + ![16, 8, 128] a ≤ S544x8x128.size a) (hB : ∀ a, ![16, 0, 0] a + ![512, 8, 128] a ≤ S544x8x128.size a)
    (hC : ∀ a, ![528, 0, 0] a + ![16, 8, 128] a ≤ S544x8x128.size a) (x : ℕ) (hx : x < 544) (s : Fin 8) (l : Fin 128) :
    row (v.read (Elt Ideal) (v.writes (Elt Ideal) f
        [⟨Rect.unit ![528, 0, 0] ![16, 8, 128] hC, C⟩, ⟨Rect.unit ![16, 0, 0] ![512, 8, 128] hB, B⟩, ⟨Rect.unit ![0, 0, 0] ![16, 8, 128] hA, A⟩])) x s l
      = if 528 ≤ x then row C (x - 528) s l else if 16 ≤ x then row B (x - 16) s l else row A x s l := by
  rw [row, dif_pos hx]
  split
  · rw [row, dif_pos (by omega)]
    refine View.read_writes_cons_unit_of_mem v f hC C _ _ (ix3 ⟨x - 528, by omega⟩ s l) rfl fun a => ?_
    fin_cases a
    · show x = 528 + (x - 528)
      omega
    · exact (Nat.zero_add _).symm
    · exact (Nat.zero_add _).symm
  refine (View.read_writes_cons_unit_of_not_mem v f hC C _ _ rfl 0 (.inl (show x < 528 by omega))).trans ?_
  split
  · rw [row, dif_pos (by omega)]
    refine View.read_writes_cons_unit_of_mem v f hB B _ _ (ix3 ⟨x - 16, by omega⟩ s l) rfl fun a => ?_
    fin_cases a
    · show x = 16 + (x - 16)
      omega
    · exact (Nat.zero_add _).symm
    · exact (Nat.zero_add _).symm
  refine (View.read_writes_cons_unit_of_not_mem v f hB B _ _ rfl 0 (.inl (show x < 16 by omega))).trans ?_
  rw [row, dif_pos (by omega)]
  refine View.read_writes_cons_unit_of_mem v f hA A _ _ (ix3 ⟨x, by omega⟩ s l) rfl fun a => ?_
  fin_cases a <;> exact (Nat.zero_add _).symm

/-- The rows the kernel holds from its second on: the block's, with the fifteen before and after it. -/
theorem held_at (c : Dev nD) (t : Fin cfg0.N) {sig' : RefSig} {κ : Kind} {sp : Space} (v : View sig' κ sp S544x8x128 .f32) (f : v.ty.Contents (Elt Ideal))
    (hA : ∀ a, ![0, 0, 0] a + ![16, 8, 128] a ≤ S544x8x128.size a) (hB : ∀ a, ![16, 0, 0] a + ![512, 8, 128] a ≤ S544x8x128.size a)
    (hC : ∀ a, ![528, 0, 0] a + ![16, 8, 128] a ≤ S544x8x128.size a) (x : ℕ) (h1 : 1 ≤ x) (h2 : x < 543) (s : Fin 8) (l : Fin 128) :
    row (v.read (Elt Ideal) (v.writes (Elt Ideal) f
        [⟨Rect.unit ![528, 0, 0] ![16, 8, 128] hC, k0_pay14 (F := Ideal) (grid0.coords t) (iblk m c 2 t)⟩,
          ⟨Rect.unit ![16, 0, 0] ![512, 8, 128] hB, k0_pay13 (F := Ideal) (iblk m c 0 t)⟩,
          ⟨Rect.unit ![0, 0, 0] ![16, 8, 128] hA, k0_pay12 (F := Ideal) (grid0.coords t) (iblk m c 1 t)⟩])) x s l
      = padded (m ((c : Thread nD τ).loc main_arg0)) ⟨(t : ℕ) / 16, by have := t.isLt; change (t : ℕ) < 64 at this; omega⟩ (512 * ((t : ℕ) % 16) + x - 1) ⟨128 * s + l, by omega⟩ := by
  rw [three_at v f _ _ _ hA hB hC x (by omega) s l]
  have e : ∀ n n' : ℕ, n = n' → ∀ b d, padded (m ((c : Thread nD τ).loc main_arg0)) b n d = padded (m ((c : Thread nD τ).loc main_arg0)) b n' d := fun n n' h b d => h ▸ rfl
  split
  · rw [row, dif_pos (by omega), after_at m c t _ (by dsimp only; omega) s l]
    exact e _ _ (by dsimp only; omega) _ _
  split
  · rw [row, dif_pos (by omega), block_at m c t _ s l]
    exact e _ _ (by dsimp only; omega) _ _
  · rw [row, dif_pos (by omega), before_at m c t _ h1 s l]

set_option maxHeartbeats 1000000 in
/-- The result array. -/
theorem final (c : Dev nD) : (dats m 0 c).arrAt 10 cfg0.N
    = OUT (CONV (m ((c : Thread nD τ).loc main_arg0)) (m ((c : Thread nD τ).loc main_arg2)) (m ((c : Thread nD τ).loc main_arg3)))
        (m ((c : Thread nD τ).loc main_arg1)) (m ((c : Thread nD τ).loc main_arg4)) (m ((c : Thread nD τ).loc main_arg5))
        (m ((c : Thread nD τ).loc main_arg6)) (m ((c : Thread nD τ).loc main_arg7)) := by
  refine (dats m 0 c).arrAt_eq_of_covers 10 _ (by decide +kernel) fun t _ y => ?_
  blk_simp
  rw [after0_10]
  unfold outsAt0
  frame_out
  generalize hZ : View.readCov (Val := Elt Ideal) (View.whole cc0_scratch1) _ _ = Z
  have hat : ∀ (r : Fin 512) (s : Fin 8) (l : Fin 128), Z (ix3 r s l)
      = convAt (m ((c : Thread nD τ).loc main_arg0)) (m ((c : Thread nD τ).loc main_arg2)) (m ((c : Thread nD τ).loc main_arg3))
        ⟨(t : ℕ) / 16, by have := t.isLt; change (t : ℕ) < 64 at this; omega⟩ ⟨512 * ((t : ℕ) % 16) + r, by omega⟩ ⟨128 * s + l, by omega⟩ := fun r s l => by
    rw [← hZ]
    unfold View.readCov
    rw [View.readAt_apply, show Scf.trips 0#32 (Scalar.addi 0#32 32#32) 1#32 = 32 from by decide +kernel]
    refine (congrArg _ (?_ : _ = ix3 r s l)).trans ((trips_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) _ _ _ _ 32 le_rfl r r.isLt s l).trans ?_)
    · funext a
      apply Fin.ext
      fin_cases a
      · exact (Nat.zero_add _).trans (Nat.one_mul _)
      · exact (Nat.zero_add _).trans (Nat.one_mul _)
      · exact (Nat.zero_add _).trans (Nat.one_mul _)
    rw [Memref.IsWhole.read_unread, Memref.IsWhole.read_unread, bias_at, convAt]
    refine congrArg₂ (fun a b : Ideal .f32 => a + b) rfl (Finset.sum_congr rfl fun j hj => ?_)
    have hj := Finset.mem_range.1 hj
    rw [taps_at m c t j hj]
    refine congrArg₂ (fun a b : Ideal .f32 => a * b) ((held_at m c t (View.whole cc0_scratch0) _ _ _ _ (r + 1 + j) (by omega) (by omega) s l).trans ?_) rfl
    exact congrArg (fun n => padded _ _ n _) (by dsimp only; omega)
  clear hZ
  have hrow : ∀ (r : Fin 512) (x : Fin 1024), Z (ix3 r ⟨(x : ℕ) / 128, by omega⟩ ⟨(x : ℕ) % 128, by omega⟩)
      = CONV (m ((c : Thread nD τ).loc main_arg0)) (m ((c : Thread nD τ).loc main_arg2)) (m ((c : Thread nD τ).loc main_arg3))
        (ix3 ⟨(t : ℕ) / 16, by have := t.isLt; change (t : ℕ) < 64 at this; omega⟩ ⟨512 * ((t : ℕ) % 16) + r, by omega⟩ x) := fun r x => by
    rw [hat, CONV_at]
    exact congrArg (convAt _ _ _ _ _) (Fin.ext (by dsimp only; omega))
  clear hat
  generalize CONV _ _ _ = Y at hrow ⊢
  pointwise [k0_pay1, k0_pay16, OUT, normed, centred]
  simp only [hrow, Ideal.logistic]
  blk_point [iblk, V, idx t]
  all_goals exact (hrow (y 1) _).trans (by blk_point [idx t])

end Cert.ConfIdeal.Value

end
-- ==== Proof.ConfClaim.lean ====
/- The claims about the depthwise convolution, its norm and second projection: the reference runs, and the kernel's results are the reference's. -/
module

public import proofs.«01_k».proof.Defs
public import proofs.«01_k».proof.Proof.Conf
public import proofs.«01_k».proof.Proof.Gen.ConfRefIdeal.Run
public import Idealize.ShloMosaic.Lib.Claim

@[expose] public section

set_option maxRecDepth 16384

noncomputable section

open Idealize.ShloMosaic Idealize.ShloMosaic.TcCoe Idealize.SL.Sem

namespace Cert.Proof

/-- The reference of the depthwise convolution, its norm and second projection terminates and leaves its arguments as they were. -/
theorem conf_reference_frame : Cert.quiescent_ConfRefIdeal := by
  intro m g _
  exact (θ_run Cert.ConfRefIdeal.defs _ _).mono
    (fun r h => ⟨fun c => (h c).2, Idealize.ShloMosaic.sem_eq_zero_of_no_sems (by decide) r.2⟩)
    (Cert.ConfRefIdeal.Value.run m g)

/-- What the reference norms is the convolution of its arguments. -/
theorem normed_eq (m' : (ℓ : Loc Cert.ConfRefIdeal.nD Cert.ConfRefIdeal.τ Cert.ConfRefIdeal.sig) → Buf (Elt Ideal) ℓ) (c : Dev Cert.ConfRefIdeal.nD) :
    Cert.ConfRefIdeal.Value.res_main_v245 (StableHlo.launchContents m' c)
      = Cert.ConfRefIdeal.Value.normed (Cert.ConfRefIdeal.Value.CONV (m' ((c : Thread Cert.ConfRefIdeal.nD Cert.ConfRefIdeal.τ).loc Cert.ConfRefIdeal.main_arg0))
          (m' ((c : Thread Cert.ConfRefIdeal.nD Cert.ConfRefIdeal.τ).loc Cert.ConfRefIdeal.main_arg2))
          (m' ((c : Thread Cert.ConfRefIdeal.nD Cert.ConfRefIdeal.τ).loc Cert.ConfRefIdeal.main_arg3)))
          (m' ((c : Thread Cert.ConfRefIdeal.nD Cert.ConfRefIdeal.τ).loc Cert.ConfRefIdeal.main_arg4))
          (m' ((c : Thread Cert.ConfRefIdeal.nD Cert.ConfRefIdeal.τ).loc Cert.ConfRefIdeal.main_arg5)) :=
  (show _ = Cert.ConfRefIdeal.Value.normed (Cert.ConfRefIdeal.Value.res_main_v221 (StableHlo.launchContents m' c)) _ _ from rfl).trans
    (congrArg (fun Y => Cert.ConfRefIdeal.Value.normed Y _ _) (Cert.ConfRefIdeal.Value.conv_eq _))

/-- Over the extended reals the kernel of the depthwise convolution, its norm and second projection and its reference leave equal results. -/
theorem conf_algebraic : Cert.algebraic_ConfIdeal_ConfRefIdeal := by
  pair_intro
  · run_from Cert.ConfIdeal.Gen.run_main m g
  · run_from Cert.ConfRefIdeal.Value.run m' g'
    obtain ⟨h0, h1, h2, h3, h4, h5, h6, h7⟩ := hagree c
    have e := normed_eq m' c
    rw [h0, h2, h3, h4, h5] at e
    rw [e]
    exact (Cert.ConfIdeal.Value.final m c).symm

end Cert.Proof

end
-- ==== Proof.ProjReference.lean ====
/- The projection into the Hyena operator, as plain host operations: what the reference program computes. -/
module

public import proofs.«01_k».proof.Proof.Gen.ProjRefIdeal
public import Idealize.ShloMosaic.Lib.Pipeline.ValueKit

@[expose] public section

noncomputable section

open Idealize.ShloMosaic Idealize.ShloMosaic.TcCoe Idealize.SL.Sem

namespace Cert.ProjRefIdeal.Value

open Cert.ProjRefIdeal Cert.ProjRefIdeal.Gen

/-- The reference's result as a function of its arguments: the tokens, the two norm gains, the weights, the bias. -/
abbrev REF (A0 : FVec Ideal S32768x1024 .f32) (A1 : FVec Ideal S2x1024 .f32) (A2 : FVec Ideal S1x1024x3072 .f32)
    (A3 : FVec Ideal S1x3072 .f32) : FVec Ideal S32768x3072 .f32 :=
  addf (Host.dotGeneral dot_S32768x1024_S1024x3072_S32768x3072_1_0_0_1_n_n none (mulf (mulf A0 (broadcastInDim
    S32768x1024 ![0, 1] bcast_S32768x1_S32768x1024_0_1 (Host.rsqrt (addf (Host.divf (broadcastInDim S32768x1 ![0]
    bcast_S32768_S32768x1_0 (Host.reduceAdd (mulf A0 A0) (constant S_ .f32 0x00000000#32)
    reducesTo_S32768x1024_S32768_d1 h_S_)) (broadcastInDim S32768x1 ![] bcast_S_S32768x1 (constant S_ .f32
    0x44800000#32))) (broadcastInDim S32768x1 ![] bcast_S_S32768x1 (constant S_ .f32 0x358637BD#32))))))
    (broadcastInDim S32768x1024 ![0, 1] bcast_S1x1024_S32768x1024_0_1 (broadcastInDim S1x1024 ![1]
    bcast_S1024_S1x1024_1 (shapeCast _ (extractStridedSlice S1x1024 ![1, 0] A1 slices_S2x1024_S1x1024_1_0)
    shapeCasts_S1x1024_S1024)))) (shapeCast _ A2 shapeCasts_S1x1024x3072_S1024x3072)) (broadcastInDim S32768x3072
    ![0, 1] bcast_S1x3072_S32768x3072_0_1 (broadcastInDim S1x3072 ![1] bcast_S3072_S1x3072_1 (shapeCast _ A3
    shapeCasts_S1x3072_S3072)))

end Cert.ProjRefIdeal.Value

end
-- ==== Proof.Proj.lean ====
/- The projection into the Hyena operator: the kernel's result array is the reference's. -/
module

public import proofs.«01_k».proof.Proof.Gen.ProjIdeal.Frame
public import proofs.«01_k».proof.Proof.ProjReference

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The block each window holds at each grid point: the token and result windows walk the rows, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What the body stores at index `y` of its block is the reference's value at the array index of `y`. -/
theorem point (c : Dev nD) (t : Fin cfg0.N) (y) :
    k0_pay1 (iblk m c 0 t) (iblk m c 1 t) (iblk m c 2 t) (iblk m c 3 t) y
      = Cert.ProjRefIdeal.Value.REF (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, Cert.ProjRefIdeal.Value.REF]
  blk_point [iblk, V, idx t]

/-- The result array after the run is the reference's result. -/
theorem final (c : Dev nD) : (dats m 0 c).arrAt 4 (cfgs 0).N
    = Cert.ProjRefIdeal.Value.REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.ProjIdeal.Value

end
-- ==== Proof.ProjClaim.lean ====
/- The claims about the projection into the Hyena operator: the reference runs, and the kernel's results are the reference's. -/
module

public import proofs.«01_k».proof.Defs
public import proofs.«01_k».proof.Proof.Proj
public import proofs.«01_k».proof.Proof.Gen.ProjRefIdeal.Run
public import Idealize.ShloMosaic.Lib.Claim

@[expose] public section

set_option maxRecDepth 16384

noncomputable section

open Idealize.ShloMosaic Idealize.ShloMosaic.TcCoe Idealize.SL.Sem

namespace Cert.Proof

/-- The reference of the projection into the Hyena operator terminates and leaves its arguments as they were. -/
theorem proj_reference_frame : Cert.quiescent_ProjRefIdeal := by
  intro m g _
  exact (θ_run Cert.ProjRefIdeal.defs _ _).mono
    (fun r h => ⟨fun c => (h c).2, Idealize.ShloMosaic.sem_eq_zero_of_no_sems (by decide) r.2⟩)
    (Cert.ProjRefIdeal.Value.run m g)

/-- Over the extended reals the kernel of the projection into the Hyena operator and its reference leave equal results. -/
theorem proj_algebraic : Cert.algebraic_ProjIdeal_ProjRefIdeal := by
  pair_intro
  · run_from Cert.ProjIdeal.Gen.run_main m g
  · run_from Cert.ProjRefIdeal.Value.run m' g'
    exact (Cert.ProjIdeal.Value.final m c).symm

end Cert.Proof

end
-- ==== Proof.ShortReference.lean ====
/- The short convolution of the Hyena operator and its input gate, as plain host operations: what the reference program computes. -/
module

public import proofs.«01_k».proof.Proof.Gen.ShortRefIdeal
public import Idealize.ShloMosaic.Lib.Pipeline.ValueKit

@[expose] public section

noncomputable section

open Idealize.ShloMosaic Idealize.ShloMosaic.TcCoe Idealize.SL.Sem

namespace Cert.ShortRefIdeal.Value

open Cert.ShortRefIdeal Cert.ShortRefIdeal.Gen

/-- The sequence with a zero before it and after it. -/
def PAD (A0 : FVec Ideal S4x8192x3072 .f32) : FVec Ideal S4x8194x3072 .f32 :=
  pad S4x8194x3072 ![0, 1, 0] ![0, 1, 0] ![0, 0, 0] A0 (sitofp .f32 (constantI S_ 32 0#32)) pads_S4x8192x3072_S4x8194x3072_000_110_000 h_S_

/-- The three projections convolved with their three taps, with their bias. -/
abbrev SUM (A0 : FVec Ideal S4x8192x3072 .f32) (A1 : FVec Ideal S1x3x3072 .f32) (A2 : FVec Ideal S1x3072 .f32) : FVec Ideal S4x8192x3072 .f32 :=
  addf (addf (addf (mulf (extractStridedSlice S4x8192x3072 ![0, 0, 0]
    (PAD A0) slices_S4x8194x3072_S4x8192x3072_0_0_0) (broadcastInDim
    S4x8192x3072 ![0, 1, 2] bcast_S1x1x3072_S4x8192x3072_0_1_2 (broadcastInDim S1x1x3072 ![2] bcast_S3072_S1x1x3072_2
    (shapeCast _ (extractStridedSlice S1x3072 ![0, 0] (shapeCast _ A1 shapeCasts_S1x3x3072_S3x3072)
    slices_S3x3072_S1x3072_0_0) shapeCasts_S1x3072_S3072)))) (mulf (extractStridedSlice S4x8192x3072 ![0, 1, 0] (PAD A0) slices_S4x8194x3072_S4x8192x3072_0_1_0) (broadcastInDim
    S4x8192x3072 ![0, 1, 2] bcast_S1x1x3072_S4x8192x3072_0_1_2 (broadcastInDim S1x1x3072 ![2] bcast_S3072_S1x1x3072_2
    (shapeCast _ (extractStridedSlice S1x3072 ![1, 0] (shapeCast _ A1 shapeCasts_S1x3x3072_S3x3072)
    slices_S3x3072_S1x3072_1_0) shapeCasts_S1x3072_S3072))))) (mulf (extractStridedSlice S4x8192x3072 ![0, 2, 0] (PAD A0) slices_S4x8194x3072_S4x8192x3072_0_2_0) (broadcastInDim
    S4x8192x3072 ![0, 1, 2] bcast_S1x1x3072_S4x8192x3072_0_1_2 (broadcastInDim S1x1x3072 ![2] bcast_S3072_S1x1x3072_2
    (shapeCast _ (extractStridedSlice S1x3072 ![2, 0] (shapeCast _ A1 shapeCasts_S1x3x3072_S3x3072)
    slices_S3x3072_S1x3072_2_0) shapeCasts_S1x3072_S3072))))) (broadcastInDim S4x8192x3072 ![0, 1, 2]
    bcast_S1x1x3072_S4x8192x3072_0_1_2 (broadcastInDim S1x1x3072 ![2] bcast_S3072_S1x1x3072_2 (shapeCast _ A2
    shapeCasts_S1x3072_S3072)))

/-- The reference's first result: the third projection times the second. -/
abbrev REFv (A0 : FVec Ideal S4x8192x3072 .f32) (A1 : FVec Ideal S1x3x3072 .f32) (A2 : FVec Ideal S1x3072 .f32) : FVec Ideal S4x8192x1024 .f32 :=
  mulf (extractStridedSlice S4x8192x1024 ![0, 0, 2048] (SUM A0 A1 A2) slices_S4x8192x3072_S4x8192x1024_0_0_2048)
    (extractStridedSlice S4x8192x1024 ![0, 0, 1024] (SUM A0 A1 A2) slices_S4x8192x3072_S4x8192x1024_0_0_1024)

/-- The second: the same, its rows taken eight by eight from blocks of 128. -/
abbrev REFg (A0 : FVec Ideal S4x8192x3072 .f32) (A1 : FVec Ideal S1x3x3072 .f32) (A2 : FVec Ideal S1x3072 .f32) : FVec Ideal S4x16x512x1024 .f32 :=
  shapeCast _ (transpose S4x16x64x8x1024 [0, 2, 1, 3, 4] (shapeCast _ (REFv A0 A1 A2) shapeCasts_S4x8192x1024_S4x64x16x8x1024)
    transposes_S4x64x16x8x1024_S4x16x64x8x1024_0_2_1_3_4) shapeCasts_S4x16x64x8x1024_S4x16x512x1024

/-- The third: the first projection. -/
abbrev REFx (A0 : FVec Ideal S4x8192x3072 .f32) (A1 : FVec Ideal S1x3x3072 .f32) (A2 : FVec Ideal S1x3072 .f32) : FVec Ideal S4x8192x1024 .f32 :=
  extractStridedSlice S4x8192x1024 ![0, 0, 0] (SUM A0 A1 A2) slices_S4x8192x3072_S4x8192x1024_0_0_0

/-- Entry `n` of the sequence with a zero before it and after it. -/
def padded (A0 : FVec Ideal S4x8192x3072 .f32) (b : Fin 4) (n : ℕ) (d : Fin 3072) : Ideal .f32 :=
  if h : 1 ≤ n ∧ n < 8193 then A0 (ix3 b ⟨n - 1, by omega⟩ d) else 0

/-- One entry of the convolution with its bias. -/
def convAt (A0 : FVec Ideal S4x8192x3072 .f32) (A1 : FVec Ideal S1x3x3072 .f32) (A2 : FVec Ideal S1x3072 .f32) (b : Fin 4) (n : ℕ) (d : Fin 3072) : Ideal .f32 :=
  A2 (ix2 0 d) + padded A0 b n d * A1 (ix3 0 0 d) + padded A0 b (n + 1) d * A1 (ix3 0 1 d) + padded A0 b (n + 2) d * A1 (ix3 0 2 d)

/-- The reference's padded sequence, read at an entry. -/
theorem pad_at (A0 : FVec Ideal S4x8192x3072 .f32) (b : Fin 4) (n : Fin 8194) (d : Fin 3072) : PAD A0 (ix3 b n d) = padded A0 b n d := by
  have hz : (FloatOps.sitofp (F := Ideal) FTy.f32 (0#32) : Ideal .f32) = 0 := by simp [FloatOps.sitofp]
  pointwise [PAD, padded]
  by_cases h : 1 ≤ (n : ℕ) ∧ (n : ℕ) < 8193
  · rw [dif_pos h, dif_pos (by omega)]
  · rw [dif_neg h, dif_neg (by omega), hz]

set_option maxHeartbeats 1000000 in
/-- The reference's sum of shifted products, read at an entry. -/
theorem SUM_at (A0 : FVec Ideal S4x8192x3072 .f32) (A1 : FVec Ideal S1x3x3072 .f32) (A2 : FVec Ideal S1x3072 .f32) (b : Fin 4) (n : Fin 8192) (d : Fin 3072) : SUM A0 A1 A2 (ix3 b n d) = convAt A0 A1 A2 b n d := by
  pointwise [SUM]
  simp only [pad_at]
  rw [convAt, Nat.add_comm (n : ℕ) 1, Nat.add_comm (n : ℕ) 2, add_assoc (A2 _ + _ : Ideal .f32), add_assoc (A2 _ : Ideal .f32), ← add_assoc (padded A0 b n d * _ : Ideal .f32)]
  exact add_comm _ _

end Cert.ShortRefIdeal.Value

end
-- ==== Proof.ShortHeld.lean ====
/- The short convolution: what the kernel holds of the sequence, its taps and its bias at one grid point. -/
module

public import proofs.«01_k».proof.Proof.Rows
public import proofs.«01_k».proof.Proof.Gen.ShortIdeal.Frame
public import proofs.«01_k».proof.Proof.ShortReference
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ShortIdeal.Value

open Cert.ShortIdeal Cert.ShortIdeal.Gen
open Cert.ShortRefIdeal.Value (padded)

variable (m : (ℓ : Loc nD τ sig) → Buf (Elt Ideal) ℓ)

/-- Which blocks the windows hold at the point of batch and row block. -/
theorem idx : ∀ t : Fin cfg0.N, win0_0.index t = ![(t : ℕ) / 16, (t : ℕ) % 16, 0] ∧ win0_1.index t = ![(t : ℕ) / 16, 64 * ((t : ℕ) % 16) - 1, 0]
    ∧ win0_2.index t = ![(t : ℕ) / 16, min (64 * ((t : ℕ) % 16) + 64) 1023, 0] ∧ win0_3.index t = ![0, 0] ∧ win0_4.index t = ![0, 0]
    ∧ win0_5.index t = ![(t : ℕ) / 16, (t : ℕ) % 16, 0] ∧ win0_6.index t = ![(t : ℕ) / 16, 0, (t : ℕ) % 16, 0] ∧ win0_7.index t = ![(t : ℕ) / 16, (t : ℕ) % 16, 0]
    ∧ (grid0.coords t 1 : ℕ) = (t : ℕ) % 16 :=
  (by decide +kernel : ∀ t : Fin grid0.N, _)

/-- The batch of a point. -/
abbrev batch (t : Fin cfg0.N) : Fin 4 := ⟨(t : ℕ) / 16, by have := t.isLt; change (t : ℕ) < 64 at this; omega⟩

/-- The taps' one block is the whole array. -/
theorem taps_blk (t : Fin cfg0.N) (A : FVec Ideal S8x3072 .f32) (j : Fin 8) (d : Fin 3072) :
    (win0_3.blk t).view.read (Elt Ideal) A (ix2 j d) = A (ix2 j d) := by
  blk_point [idx t]

/-- The first axis of one entry dropped. -/
theorem flat_at (X : FVec Ideal S1x3x3072 .f32) (j : Fin 3) (d : Fin 3072) :
    shapeCast S3x3072 X shapeCasts_S1x3x3072_S3x3072 (ix2 j d) = X (ix3 0 j d) := by
  pointwise []

/-- The taps as the call is given them. -/
theorem taps_V (c : Dev nD) : V m c main_v4
    = (Host.scatter scatter_S8x3072_S1_S3x3072_01_n_0_0 (fun _ b => b)
        (broadcastInDim S8x3072 ![] bcast_S_S8x3072 (constant (F := Ideal) S_ .f32 0x00000000#32))
        (broadcastInDim S1 ![] bcast_S_S1 (constantI S_ 32 0#32))
        (shapeCast S3x3072 (m ((c : Thread nD τ).loc main_arg1)) shapeCasts_S1x3x3072_S3x3072) : FVec Ideal S8x3072 .f32) := by
  unfold V
  after_results
  try rfl

/-- The taps the kernel holds. -/
theorem taps_at (c : Dev nD) (t : Fin cfg0.N) (j : Fin 8) (hj : (j : ℕ) < 3) (d : Fin 3072) :
    iblk m c 3 t (ix2 j d) = m ((c : Thread nD τ).loc main_arg1) (ix3 0 ⟨j, hj⟩ d) := by
  unfold iblk
  refine (taps_blk t _ j d).trans ((congrFun (taps_V m c) _).trans ((Cert.Rows.rows_set _ rfl rfl rfl _ _ (fun _ => ?_) _ j hj _).trans (flat_at _ _ _)))
  rfl

/-- The bias the kernel holds. -/
theorem bias_at (c : Dev nD) (t : Fin cfg0.N) (d : Fin 3072) :
    iblk m c 4 t (ix2 0 d) = m ((c : Thread nD τ).loc main_arg2) (ix2 0 d) := by
  blk_point [iblk, V, idx t]

/-- The rows before the block, zero at the first. -/
theorem before_at (c : Dev nD) (t : Fin cfg0.N) (r : Fin 8) (hr : (r : ℕ) = 7) (d : Fin 3072) :
    k0_pay4 (F := Ideal) (grid0.coords t) (iblk m c 1 t) (ix2 r d)
      = padded (m ((c : Thread nD τ).loc main_arg0)) (batch t) (512 * ((t : ℕ) % 16) + r - 7) d := by
  rw [padded]
  pointwise [k0_pay4]
  by_cases h : (t : ℕ) % 16 = 0
  · rw [(idx t).2.2.2.2.2.2.2.2, h, dif_neg (by omega)]
    rfl
  · rw [dif_pos (by omega), show Scalar.cmpi .sgt (BitVec.ofNat 32 ((grid0.coords t 1 : Fin _) : ℕ)) 0#32 = 1#1 from by
      rw [(idx t).2.2.2.2.2.2.2.2]
      generalize hq : (t : ℕ) % 16 = q at h
      have hq16 : q < 16 := by omega
      clear hq
      interval_cases q <;> first | rfl | exact absurd rfl h]
    blk_point [iblk, V, idx t]

/-- The block's own rows. -/
theorem block_at (c : Dev nD) (t : Fin cfg0.N) (r : Fin 512) (d : Fin 3072) :
    k0_pay5 (F := Ideal) (iblk m c 0 t) (ix2 r d)
      = padded (m ((c : Thread nD τ).loc main_arg0)) (batch t) (512 * ((t : ℕ) % 16) + r + 1) d := by
  rw [padded, dif_pos (by omega)]
  pointwise [k0_pay5]
  blk_point [iblk, V, idx t]

/-- The row after the block, zero at the last. -/
theorem after_at (c : Dev nD) (t : Fin cfg0.N) (r : Fin 8) (hr : (r : ℕ) = 0) (d : Fin 3072) :
    k0_pay6 (F := Ideal) (grid0.coords t) (iblk m c 2 t) (ix2 r d)
      = padded (m ((c : Thread nD τ).loc main_arg0)) (batch t) (512 * ((t : ℕ) % 16) + r + 513) d := by
  rw [padded]
  pointwise [k0_pay6]
  by_cases h : (t : ℕ) % 16 = 15
  · rw [(idx t).2.2.2.2.2.2.2.2, h, dif_neg (by omega)]
    rfl
  · rw [dif_pos (by omega), show Scalar.cmpi .slt (BitVec.ofNat 32 ((grid0.coords t 1 : Fin _) : ℕ)) 15#32 = 1#1 from by
      rw [(idx t).2.2.2.2.2.2.2.2]
      generalize hq : (t : ℕ) % 16 = q at h
      have hq16 : q < 16 := by omega
      clear hq
      interval_cases q <;> first | rfl | exact absurd rfl h]
    blk_point [iblk, V, idx t]

/-- An array written in three parts, read at a row of its middle, or next to it. -/
theorem held_at (c : Dev nD) (t : Fin cfg0.N) {sig' : RefSig} {κ : Kind} {sp : Space} (v : View sig' κ sp S528x3072 .f32) (f : v.ty.Contents (Elt Ideal))
    (hA : ∀ a, ![0, 0] a + ![8, 3072] a ≤ S528x3072.size a) (hB : ∀ a, ![8, 0] a + ![512, 3072] a ≤ S528x3072.size a)
    (hC : ∀ a, ![520, 0] a + ![8, 3072] a ≤ S528x3072.size a) (x : Fin 528) (h1 : 7 ≤ (x : ℕ)) (h2 : (x : ℕ) < 521) (d : Fin 3072) :
    v.read (Elt Ideal) (v.writes (Elt Ideal) f
        [⟨Rect.unit ![520, 0] ![8, 3072] hC, k0_pay6 (F := Ideal) (grid0.coords t) (iblk m c 2 t)⟩,
          ⟨Rect.unit ![8, 0] ![512, 3072] hB, k0_pay5 (F := Ideal) (iblk m c 0 t)⟩,
          ⟨Rect.unit ![0, 0] ![8, 3072] hA, k0_pay4 (F := Ideal) (grid0.coords t) (iblk m c 1 t)⟩]) (ix2 x d)
      = padded (m ((c : Thread nD τ).loc main_arg0)) (batch t) (512 * ((t : ℕ) % 16) + x - 7) d := by
  by_cases hc : 520 ≤ (x : ℕ)
  · refine (View.read_writes_cons_unit_of_mem v f hC _ _ _ (ix2 ⟨(x : ℕ) - 520, by omega⟩ d) rfl fun a => ?_).trans
      ((after_at m c t _ (by dsimp only; omega) d).trans (congrArg (fun n => padded _ _ n _) (by dsimp only; omega)))
    fin_cases a
    · show (x : ℕ) = 520 + ((x : ℕ) - 520)
      omega
    · exact (Nat.zero_add _).symm
  refine (View.read_writes_cons_unit_of_not_mem v f hC _ _ _ rfl 0 (.inl (show (x : ℕ) < 520 by omega))).trans ?_
  by_cases hb : 8 ≤ (x : ℕ)
  · refine (View.read_writes_cons_unit_of_mem v f hB _ _ _ (ix2 ⟨(x : ℕ) - 8, by omega⟩ d) rfl fun a => ?_).trans
      ((block_at m c t _ d).trans (congrArg (fun n => padded _ _ n _) (by dsimp only; omega)))
    fin_cases a
    · show (x : ℕ) = 8 + ((x : ℕ) - 8)
      omega
    · exact (Nat.zero_add _).symm
  refine (View.read_writes_cons_unit_of_not_mem v f hB _ _ _ rfl 0 (.inl (show (x : ℕ) < 8 by omega))).trans ?_
  refine (View.read_writes_cons_unit_of_mem v f hA _ _ _ (ix2 ⟨(x : ℕ), by omega⟩ d) rfl fun a => ?_).trans (before_at m c t _ (by dsimp only; omega) d)
  fin_cases a <;> exact (Nat.zero_add _).symm

end Cert.ShortIdeal.Value

end
-- ==== Proof.Short.lean ====
/- The short convolution and the input gate: the kernel's result arrays are the reference's. -/
module

public import proofs.«01_k».proof.Proof.ShortHeld

@[expose] public section

set_option maxRecDepth 16384

noncomputable section

open Idealize.ShloMosaic Idealize.ShloMosaic.TcCoe Idealize.SL.Sem
open Idealize.ShloMosaic.Pipeline (Dat)

namespace Cert.ShortIdeal.Value

open Cert.ShortIdeal Cert.ShortIdeal.Gen
open Cert.ShortRefIdeal.Value (padded convAt SUM SUM_at REFv REFg REFx)

variable (m : (ℓ : Loc nD τ sig) → Buf (Elt Ideal) ℓ)

/-- 512 rows of the sequence the kernel holds, from row `o` and column `p` on. -/
abbrev cols (c : Dev nD) (t : Fin cfg0.N) (o p : ℕ) (h : ∀ a, ![o, p] a + ![512, 1024] a ≤ S528x3072.size a) : FVec Ideal S512x1024 .f32 :=
  View.readCov (Val := Elt Ideal) (s := S528x3072) (e := .f32) (View.whole cc0_scratch0)
    [⟨Rect.unit ![520, 0] ![8, 3072] inb_S528x3072_S8x3072_520_0, k0_pay6 (F := Ideal) (grid0.coords t) (iblk m c 2 t)⟩,
      ⟨Rect.unit ![8, 0] ![512, 3072] inb_S528x3072_S512x3072_8_0, k0_pay5 (F := Ideal) (iblk m c 0 t)⟩,
      ⟨Rect.unit ![0, 0] ![8, 3072] inb_S528x3072_S8x3072_0_0, k0_pay4 (F := Ideal) (grid0.coords t) (iblk m c 1 t)⟩]
    (Rect.unit (s := S528x3072) ![o, p] ![512, 1024] h).toLoadRect

/-- One entry of them. -/
theorem cols_at (c : Dev nD) (t : Fin cfg0.N) (o p : ℕ) (h : ∀ a, ![o, p] a + ![512, 1024] a ≤ S528x3072.size a) (ho : 7 ≤ o) (ho' : o ≤ 9) (hp : p ≤ 2048)
    (r : Fin 512) (l : Fin 1024) : cols m c t o p h (ix2 r l)
      = padded (m ((c : Thread nD τ).loc main_arg0)) (batch t) (512 * ((t : ℕ) % 16) + r + (o - 7)) ⟨p + l, by omega⟩ := by
  unfold cols View.readCov
  rw [View.readAt_apply]
  refine (congrArg _ (?_ : _ = ix2 ⟨o + r, by omega⟩ ⟨p + l, by omega⟩)).trans ((held_at m c t (View.whole cc0_scratch0) _ _ _ _ ⟨o + r, by omega⟩ (by dsimp only; omega) (by dsimp only; omega) ⟨p + l, by omega⟩).trans ?_)
  · funext a
    apply Fin.ext
    fin_cases a
    · exact congrArg (o + ·) (Nat.one_mul _)
    · exact congrArg (p + ·) (Nat.one_mul _)
  · exact congrArg (fun n => padded _ _ n _) (by dsimp only; omega)

/-- 1024 entries of row `j` of the taps, from column `p` on. -/
abbrev taps (c : Dev nD) (t : Fin cfg0.N) (j p : ℕ) (h : ∀ a, ![j, p] a + ![1, 1024] a ≤ S8x3072.size a) : FVec Ideal S1x1024 .f32 :=
  View.ld (Val := Elt Ideal) (e' := .f32) (iblk m c 3 t) (Rect.unit (s := S8x3072) ![j, p] ![1, 1024] h)

/-- One entry of them. -/
theorem taps_ld (c : Dev nD) (t : Fin cfg0.N) (j p : ℕ) (h : ∀ a, ![j, p] a + ![1, 1024] a ≤ S8x3072.size a) (hj : j < 3) (hp : p ≤ 2048) (l : Fin 1024) :
    taps m c t j p h (ix2 0 l) = m ((c : Thread nD τ).loc main_arg1) (ix3 0 ⟨j, hj⟩ ⟨p + l, by omega⟩) := by
  refine (congrArg (iblk m c 3 t) (?_ : _ = ix2 ⟨j, by omega⟩ ⟨p + l, by omega⟩)).trans (taps_at m c t ⟨j, by omega⟩ hj _)
  funext a
  apply Fin.ext
  fin_cases a
  · show j + 1 * 0 = j
    omega
  · exact congrArg (p + ·) (Nat.one_mul _)

/-- 1024 entries of the bias, from column `p` on. -/
abbrev bias (c : Dev nD) (t : Fin cfg0.N) (p : ℕ) (h : ∀ a, ![0, p] a + ![1, 1024] a ≤ S1x3072.size a) : FVec Ideal S1x1024 .f32 :=
  View.ld (Val := Elt Ideal) (e' := .f32) (iblk m c 4 t) (Rect.unit (s := S1x3072) ![0, p] ![1, 1024] h)

/-- One entry of them. -/
theorem bias_ld (c : Dev nD) (t : Fin cfg0.N) (p : ℕ) (h : ∀ a, ![0, p] a + ![1, 1024] a ≤ S1x3072.size a) (hp : p ≤ 2048) (l : Fin 1024) :
    bias m c t p h (ix2 0 l) = m ((c : Thread nD τ).loc main_arg2) (ix2 0 ⟨p + l, by omega⟩) := by
  refine (congrArg (iblk m c 4 t) (?_ : _ = ix2 0 ⟨p + l, by omega⟩)).trans (bias_at m c t _)
  funext a
  apply Fin.ext
  fin_cases a
  · rfl
  · exact congrArg (p + ·) (Nat.one_mul _)

/-- Bias and three shifted products of the block's rows are the reference's convolution. -/
theorem sum_at (c : Dev nD) (t : Fin cfg0.N) (p : ℕ) (hp : p ≤ 2048) (h0 h1 h2 g0 g1 g2 h) (r : Fin 512) (l : Fin 1024) :
    (bias m c t p h (ix2 0 l) + cols m c t 7 p h0 (ix2 r l) * taps m c t 0 p g0 (ix2 0 l) + cols m c t 8 p h1 (ix2 r l) * taps m c t 1 p g1 (ix2 0 l)
      + cols m c t 9 p h2 (ix2 r l) * taps m c t 2 p g2 (ix2 0 l) : Ideal .f32)
    = SUM (m ((c : Thread nD τ).loc main_arg0)) (m ((c : Thread nD τ).loc main_arg1)) (m ((c : Thread nD τ).loc main_arg2))
        (ix3 (batch t) ⟨512 * ((t : ℕ) % 16) + r, by omega⟩ ⟨p + l, by omega⟩) := by
  rw [bias_ld m c t p h hp, cols_at m c t 7 p h0 (by omega) (by omega) hp, cols_at m c t 8 p h1 (by omega) (by omega) hp, cols_at m c t 9 p h2 (by omega) (by omega) hp,
    taps_ld m c t 0 p g0 (by omega) hp, taps_ld m c t 1 p g1 (by omega) hp, taps_ld m c t 2 p g2 (by omega) hp, SUM_at]
  rfl

/-- What the kernel stores of the first projection. -/
theorem pay_x0 (B : FVec Ideal S1x1024 .f32) (X0 X1 X2 : FVec Ideal S512x1024 .f32) (W0 W1 W2 : FVec Ideal S1x1024 .f32) (r : Fin 512) (l : Fin 1024) :
    k0_pay8 (k0_pay7 B X0 W0) X1 W1 X2 W2 (ix3 0 r l) = B (ix2 0 l) + X0 (ix2 r l) * W0 (ix2 0 l) + X1 (ix2 r l) * W1 (ix2 0 l) + X2 (ix2 r l) * W2 (ix2 0 l) := by
  pointwise [k0_pay8, k0_pay7]

/-- The product of the third projection and the second. -/
theorem pay_v (B : FVec Ideal S1x1024 .f32) (X0 X1 X2 : FVec Ideal S512x1024 .f32) (W0 W1 W2 : FVec Ideal S1x1024 .f32)
    (B' : FVec Ideal S1x1024 .f32) (X0' X1' X2' : FVec Ideal S512x1024 .f32) (W0' W1' W2' : FVec Ideal S1x1024 .f32) (r : Fin 512) (l : Fin 1024) :
    k0_pay11 (k0_pay9 B X0 W0 X1 W1) X2 (k0_pay10 W2) B' X0' W0' X1' W1' X2' W2' (ix2 r l)
      = (B (ix2 0 l) + X0 (ix2 r l) * W0 (ix2 0 l) + X1 (ix2 r l) * W1 (ix2 0 l) + X2 (ix2 r l) * W2 (ix2 0 l))
        * (B' (ix2 0 l) + X0' (ix2 r l) * W0' (ix2 0 l) + X1' (ix2 r l) * W1' (ix2 0 l) + X2' (ix2 r l) * W2' (ix2 0 l)) := by
  pointwise [k0_pay11, k0_pay10, k0_pay9]

/-- The product the kernel forms at a point. -/
abbrev gate (c : Dev nD) (t : Fin cfg0.N) : FVec Ideal S512x1024 .f32 :=
  k0_pay11 (k0_pay9 (bias m c t 2048 inb_S1x3072_S1x1024_0_2048) (cols m c t 7 2048 inb_S528x3072_S512x1024_7_2048) (taps m c t 0 2048 inb_S8x3072_S1x1024_0_2048)
      (cols m c t 8 2048 inb_S528x3072_S512x1024_8_2048) (taps m c t 1 2048 inb_S8x3072_S1x1024_1_2048))
    (cols m c t 9 2048 inb_S528x3072_S512x1024_9_2048) (k0_pay10 (taps m c t 2 2048 inb_S8x3072_S1x1024_2_2048))
    (bias m c t 1024 inb_S1x3072_S1x1024_0_1024) (cols m c t 7 1024 inb_S528x3072_S512x1024_7_1024) (taps m c t 0 1024 inb_S8x3072_S1x1024_0_1024)
    (cols m c t 8 1024 inb_S528x3072_S512x1024_8_1024) (taps m c t 1 1024 inb_S8x3072_S1x1024_1_1024)
    (cols m c t 9 1024 inb_S528x3072_S512x1024_9_1024) (taps m c t 2 1024 inb_S8x3072_S1x1024_2_1024)

/-- It is the reference's first result at the block's rows. -/
theorem gate_at (c : Dev nD) (t : Fin cfg0.N) (r : Fin 512) (l : Fin 1024) :
    gate m c t (ix2 r l) = REFv (m ((c : Thread nD τ).loc main_arg0)) (m ((c : Thread nD τ).loc main_arg1)) (m ((c : Thread nD τ).loc main_arg2))
      (ix3 (batch t) ⟨512 * ((t : ℕ) % 16) + r, by omega⟩ l) := by
  refine (pay_v _ _ _ _ _ _ _ _ _ _ _ _ _ _ r l).trans ?_
  rw [sum_at m c t 2048 (by omega), sum_at m c t 1024 (by omega)]
  unfold REFv
  generalize SUM _ _ _ = S
  pointwise []

set_option maxHeartbeats 1000000 in
/-- The third result. -/
theorem final_x0 (c : Dev nD) : (dats m 0 c).arrAt 7 cfg0.N
    = REFx (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  frame_out
  obtain ⟨r, l, rfl⟩ : ∃ (r : Fin 512) (l : Fin 1024), y = ix3 0 r l := ⟨y 1, y 2, by rw [eq_ix3 y]; congr 1; exact Subsingleton.elim (α := Fin 1) _ _⟩
  refine (pay_x0 _ _ _ _ _ _ _ r l).trans ((sum_at m c t 0 (by omega) _ _ _ _ _ _ _ r l).trans ?_)
  unfold REFx
  generalize SUM _ _ _ = S
  pointwise []
  blk_point [idx t]

set_option maxHeartbeats 1000000 in
/-- The first result. -/
theorem final_v (c : Dev nD) : (dats m 0 c).arrAt 5 cfg0.N
    = REFv (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_out
  change shapeCast S1x512x1024 (gate m c t) shapeCasts_S512x1024_S1x512x1024 y = _
  have hg := gate_at m c t
  generalize gate m c t = G at hg ⊢
  generalize REFv _ _ _ = R at hg ⊢
  pointwise [hg]
  blk_point [idx t]

set_option maxHeartbeats 4000000 in
/-- The second result. -/
theorem final_group (c : Dev nD) : (dats m 0 c).arrAt 6 cfg0.N
    = REFg (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold outsAt0
  frame_out
  unfold k0_pay13 k0_pay14
  have hg := gate_at m c t
  unfold gate at hg
  generalize k0_pay11 (F := Ideal) _ _ _ _ _ _ _ _ _ _ = G at hg ⊢
  unfold REFg
  generalize REFv _ _ _ = R at hg ⊢
  obtain_idx i : S512x1024 := [(y 2 : ℕ) / 8 * 128 + (y 1 : ℕ) * 8 + (y 2 : ℕ) % 8, (y 3 : ℕ)] with hi
  refine Eq.trans (b := G i) ?_ ?_
  · clear hg
    canon_tiles x h
    all_goals (open_payloads; pointwise; blk_ext)
  · refine (congrArg G (eq_ix2 i)).trans ((hg (i 0) (i 1)).trans ?_)
    pointwise []
    blk_point [idx t]

end Cert.ShortIdeal.Value

end
-- ==== Proof.ShortClaim.lean ====
/- The claims about the short convolution and its gate: the reference runs, and the kernel's results are the reference's. -/
module

public import proofs.«01_k».proof.Defs
public import proofs.«01_k».proof.Proof.Short
public import proofs.«01_k».proof.Proof.Gen.ShortRefIdeal.Run
public import Idealize.ShloMosaic.Lib.Claim

@[expose] public section

set_option maxRecDepth 100000

noncomputable section

open Idealize.ShloMosaic Idealize.ShloMosaic.TcCoe Idealize.SL.Sem

namespace Cert.Proof

/-- The reference of the short convolution and its gate terminates and leaves its arguments as they were. -/
theorem short_reference_frame : Cert.quiescent_ShortRefIdeal := by
  intro m g _
  exact (θ_run Cert.ShortRefIdeal.defs _ _).mono
    (fun r h => ⟨fun c => (h c).2.2.2, Idealize.ShloMosaic.sem_eq_zero_of_no_sems (by decide) r.2⟩)
    (Cert.ShortRefIdeal.Value.run m g)

/-- Over the extended reals the kernel of the short convolution and its gate and its reference leave equal results. -/
theorem short_algebraic : Cert.algebraic_ShortIdeal_ShortRefIdeal := by
  pair_intro
  · run_from Cert.ShortIdeal.Gen.run_main m g
  · run_from Cert.ShortRefIdeal.Value.run m' g'
    · obtain ⟨h0, h1, h2⟩ := hagree c
      refine (show Cert.ShortRefIdeal.Value.res_out0 m' c = Cert.ShortRefIdeal.Value.REFv
        (m' ((c : Thread Cert.ShortRefIdeal.nD Cert.ShortRefIdeal.τ).loc Cert.ShortRefIdeal.main_arg0))
        (m' ((c : Thread Cert.ShortRefIdeal.nD Cert.ShortRefIdeal.τ).loc Cert.ShortRefIdeal.main_arg1))
        (m' ((c : Thread Cert.ShortRefIdeal.nD Cert.ShortRefIdeal.τ).loc Cert.ShortRefIdeal.main_arg2)) from rfl).trans ?_
      rw [h0, h1, h2]
      exact (Cert.ShortIdeal.Value.final_v m c).symm
    · obtain ⟨h0, h1, h2⟩ := hagree c
      refine (show Cert.ShortRefIdeal.Value.res_out1 m' c = Cert.ShortRefIdeal.Value.REFg
        (m' ((c : Thread Cert.ShortRefIdeal.nD Cert.ShortRefIdeal.τ).loc Cert.ShortRefIdeal.main_arg0))
        (m' ((c : Thread Cert.ShortRefIdeal.nD Cert.ShortRefIdeal.τ).loc Cert.ShortRefIdeal.main_arg1))
        (m' ((c : Thread Cert.ShortRefIdeal.nD Cert.ShortRefIdeal.τ).loc Cert.ShortRefIdeal.main_arg2)) from rfl).trans ?_
      rw [h0, h1, h2]
      exact (Cert.ShortIdeal.Value.final_group m c).symm
    · exact (Cert.ShortIdeal.Value.final_x0 m c).symm

end Cert.Proof

end
-- ==== Proof.Corner.lean ====
/- A block written at a fixed place of an array: inside the block what was written, outside it what was there. -/
module

public import Idealize.ShloMosaic.Lib.Pipeline.ValueKit
public import Idealize.ShloMosaic.Lib.Routing.OpsPair
public import Idealize.ShloMosaic.Lib.Routing.OpsSet

@[expose] public section

set_option maxRecDepth 16384

noncomputable section

open Idealize.ShloMosaic Idealize.SL.Sem
open Idealize.ShloMosaic.Routing

namespace Cert.Corner

variable {α : Type}

/-- With all index words zero every window starts at the origin. -/
theorem start_zero {s si u : Shape} (d : ScatterDims s si u) (w : IVec si 32) (hw : ∀ i, (w i).toInt = 0) (k : u.Idx) (a : Fin s.rank) : d.start k w a = 0 := by
  unfold ScatterDims.start
  split
  · exact hw _
  · rfl

/-- Where an update lands in a matrix: start and window together give its place. -/
theorem lands_pair {R C : ℕ} {si u : Shape} (d : ScatterDims (shape2 R C) si u) (k : u.Idx) (w : IVec si 32) (r : Fin R) (q : Fin C) :
    d.resultIdx? k w = some (ix2 r q) ↔ d.start k w 0 + (d.window k 0 : ℤ) = (r : ℕ) ∧ d.start k w 1 + (d.window k 1 : ℤ) = (q : ℕ) := by
  rw [resultIdx?_eq_some]
  exact Fin.forall_fin_two

/-- A block written at the corner of a matrix, read inside it. -/
theorem hit2 {R C N M : ℕ} {si : Shape} (d : ScatterDims (shape2 R C) si (shape2 N M)) (h0 : ∀ k, d.window k 0 = (k 0 : ℕ)) (h1 : ∀ k, d.window k 1 = (k 1 : ℕ))
    (x : (shape2 R C).Idx → α) (w : IVec si 32) (hw : ∀ i, (w i).toInt = 0) (u : (shape2 N M).Idx → α) (r : Fin R) (q : Fin C) (hr : (r : ℕ) < N) (hq : (q : ℕ) < M) :
    Host.scatter d (fun _ b => b) x w u (ix2 r q) = u (ix2 ⟨r, hr⟩ ⟨q, hq⟩) := by
  have lands : ∀ k, d.resultIdx? k w = some (ix2 r q) ↔ (k 0 : ℕ) = r ∧ (k 1 : ℕ) = q := fun k => by
    rw [lands_pair, start_zero d w hw, start_zero d w hw, h0, h1]
    omega
  refine scatter_set_hit d x w u _ _ (fun k hk => ?_) (ix2 ⟨r, hr⟩ ⟨q, hq⟩) ((lands _).2 ⟨rfl, rfl⟩)
  obtain ⟨e0, e1⟩ := (lands k).1 hk
  rw [eq_ix2 k]
  exact congrArg u (congrArg₂ ix2 (Fin.ext e0) (Fin.ext e1))

/-- The same read outside it. -/
theorem miss2 {R C N M : ℕ} {si : Shape} (d : ScatterDims (shape2 R C) si (shape2 N M)) (h0 : ∀ k, d.window k 0 = (k 0 : ℕ)) (h1 : ∀ k, d.window k 1 = (k 1 : ℕ))
    (x : (shape2 R C).Idx → α) (w : IVec si 32) (hw : ∀ i, (w i).toInt = 0) (u : (shape2 N M).Idx → α) (r : Fin R) (q : Fin C) (h : N ≤ (r : ℕ) ∨ M ≤ (q : ℕ)) :
    Host.scatter d (fun _ b => b) x w u (ix2 r q) = x (ix2 r q) := by
  refine scatter_set_miss d x w u _ fun k hk => ?_
  rw [lands_pair, start_zero d w hw, start_zero d w hw, h0, h1] at hk
  have e0 : (k 0 : ℕ) < N := (k 0).isLt
  have e1 : (k 1 : ℕ) < M := (k 1).isLt
  omega

/-- Where an update lands in an array of three axes: start and window together give its place. -/
theorem lands_triple {A R C : ℕ} {si u : Shape} (d : ScatterDims (shape3 A R C) si u) (k : u.Idx) (w : IVec si 32) (a : Fin A) (r : Fin R) (q : Fin C) :
    d.resultIdx? k w = some (ix3 a r q) ↔ d.start k w 0 + (d.window k 0 : ℤ) = (a : ℕ) ∧ d.start k w 1 + (d.window k 1 : ℤ) = (r : ℕ)
      ∧ d.start k w 2 + (d.window k 2 : ℤ) = (q : ℕ) := by
  rw [resultIdx?_eq_some]
  constructor
  · intro h
    exact ⟨h 0, h 1, h 2⟩
  · rintro ⟨e0, e1, e2⟩ b
    match b with
    | ⟨0, _⟩ => exact e0
    | ⟨1, _⟩ => exact e1
    | ⟨2, _⟩ => exact e2

/-- A block written at the corner of an array of three axes, read inside it. -/
theorem hit3 {A R C L N M : ℕ} {si : Shape} (d : ScatterDims (shape3 A R C) si (shape3 L N M)) (h0 : ∀ k, d.window k 0 = (k 0 : ℕ)) (h1 : ∀ k, d.window k 1 = (k 1 : ℕ))
    (h2 : ∀ k, d.window k 2 = (k 2 : ℕ)) (x : (shape3 A R C).Idx → α) (w : IVec si 32) (hw : ∀ i, (w i).toInt = 0) (u : (shape3 L N M).Idx → α)
    (a : Fin A) (r : Fin R) (q : Fin C) (ha : (a : ℕ) < L) (hr : (r : ℕ) < N) (hq : (q : ℕ) < M) :
    Host.scatter d (fun _ b => b) x w u (ix3 a r q) = u (ix3 ⟨a, ha⟩ ⟨r, hr⟩ ⟨q, hq⟩) := by
  have lands : ∀ k, d.resultIdx? k w = some (ix3 a r q) ↔ (k 0 : ℕ) = a ∧ (k 1 : ℕ) = r ∧ (k 2 : ℕ) = q := fun k => by
    rw [lands_triple, start_zero d w hw, start_zero d w hw, start_zero d w hw, h0, h1, h2]
    omega
  refine scatter_set_hit d x w u _ _ (fun k hk => ?_) (ix3 ⟨a, ha⟩ ⟨r, hr⟩ ⟨q, hq⟩) ((lands _).2 ⟨rfl, rfl, rfl⟩)
  obtain ⟨e0, e1, e2⟩ := (lands k).1 hk
  rw [eq_ix3 k, show k 0 = ⟨a, ha⟩ from Fin.ext e0, show k 1 = ⟨r, hr⟩ from Fin.ext e1, show k 2 = ⟨q, hq⟩ from Fin.ext e2]
  rfl

/-- The same read outside it. -/
theorem miss3 {A R C L N M : ℕ} {si : Shape} (d : ScatterDims (shape3 A R C) si (shape3 L N M)) (h0 : ∀ k, d.window k 0 = (k 0 : ℕ)) (h1 : ∀ k, d.window k 1 = (k 1 : ℕ))
    (h2 : ∀ k, d.window k 2 = (k 2 : ℕ)) (x : (shape3 A R C).Idx → α) (w : IVec si 32) (hw : ∀ i, (w i).toInt = 0) (u : (shape3 L N M).Idx → α)
    (a : Fin A) (r : Fin R) (q : Fin C) (h : N ≤ (r : ℕ) ∨ M ≤ (q : ℕ)) : Host.scatter d (fun _ b => b) x w u (ix3 a r q) = x (ix3 a r q) := by
  refine scatter_set_miss d x w u _ fun k hk => ?_
  rw [lands_triple, start_zero d w hw, start_zero d w hw, start_zero d w hw, h0, h1, h2] at hk
  have e1 : (k 1 : ℕ) < N := (k 1).isLt
  have e2 : (k 2 : ℕ) < M := (k 2).isLt
  omega

/-- A vector written into a one-row matrix from column `p` on, read inside it. -/
theorem hit_row {C N : ℕ} {si : Shape} (d : ScatterDims (shape2 1 C) si (shape1 N)) (p : ℕ) (w : IVec si 32) (s0 : ∀ k, d.start k w 0 = 0) (s1 : ∀ k, d.start k w 1 = (p : ℤ))
    (h0 : ∀ k, d.window k 0 = 0) (h1 : ∀ k, d.window k 1 = (k 0 : ℕ)) (x : (shape2 1 C).Idx → α) (u : (shape1 N).Idx → α) (q : Fin C) (hp : p ≤ (q : ℕ)) (hq : (q : ℕ) < p + N) :
    Host.scatter d (fun _ b => b) x w u (ix2 0 q) = u (ix1 ⟨(q : ℕ) - p, by omega⟩) := by
  have lands : ∀ k, d.resultIdx? k w = some (ix2 0 q) ↔ p + (k 0 : ℕ) = q := fun k => by
    rw [lands_pair, s0, s1, h0, h1]
    constructor
    · rintro ⟨_, e⟩
      omega
    · intro e
      exact ⟨rfl, by omega⟩
  refine scatter_set_hit d x w u _ _ (fun k hk => ?_) (ix1 ⟨(q : ℕ) - p, by omega⟩) ((lands _).2 (show p + ((q : ℕ) - p) = q by omega))
  have e := (lands k).1 hk
  rw [eq_ix1 k]
  exact congrArg (fun t => u (ix1 t)) (Fin.ext (show (k 0 : ℕ) = (q : ℕ) - p by omega))

/-- The same read outside it. -/
theorem miss_row {C N : ℕ} {si : Shape} (d : ScatterDims (shape2 1 C) si (shape1 N)) (p : ℕ) (w : IVec si 32) (s1 : ∀ k, d.start k w 1 = (p : ℤ))
    (h1 : ∀ k, d.window k 1 = (k 0 : ℕ)) (x : (shape2 1 C).Idx → α) (u : (shape1 N).Idx → α) (q : Fin C) (hq : (q : ℕ) < p ∨ p + N ≤ (q : ℕ)) :
    Host.scatter d (fun _ b => b) x w u (ix2 0 q) = x (ix2 0 q) := by
  refine scatter_set_miss d x w u _ fun k hk => ?_
  rw [lands_pair, s1, h1] at hk
  have e0 : (k 0 : ℕ) < N := (k 0).isLt
  omega

end Cert.Corner
end
-- ==== Proof.FilterReference.lean ====
/- The network of the Hyena operator's filter, as plain host operations: what the reference program computes. -/
module

public import proofs.«01_k».proof.Proof.Gen.FilterRefIdeal
public import Idealize.ShloMosaic.Lib.Pipeline.ValueKit

@[expose] public section

noncomputable section

open Idealize.ShloMosaic Idealize.ShloMosaic.TcCoe Idealize.SL.Sem

namespace Cert.FilterRefIdeal.Value

open Cert.FilterRefIdeal Cert.FilterRefIdeal.Gen

/-- The positions, from 0 to 1. -/
def TIME : FVec Ideal S8192x1 .f32 :=
  broadcastInDim S8192x1 ![0] bcast_S8192_S8192x1_0 (concatenate S8192 0 [⟨S8191, (addf (mulf (broadcastInDim S8191 ![0] bcast_S1_S8191_0 (shapeCast _ (id (constant S_ .f32 0x00000000#32)) shapeCasts_S_S1))
      (subf (broadcastInDim S8191 ![] bcast_S_S8191 (constant S_ .f32 0x3F800000#32)) (Host.divf (sitofp .f32 (iotaInDim S8191 32 0)) (broadcastInDim S8191 ![] bcast_S_S8191 (constant S_ .f32 0x45FFF800#32)))))
    (mulf (broadcastInDim S8191 ![0] bcast_S1_S8191_0 (shapeCast _ (id (constant S_ .f32 0x3F800000#32)) shapeCasts_S_S1))
      (Host.divf (sitofp .f32 (iotaInDim S8191 32 0)) (broadcastInDim S8191 ![] bcast_S_S8191 (constant S_ .f32 0x45FFF800#32)))) : FVec Ideal S8191 .f32)⟩,
    ⟨S1, (broadcastInDim S1 ![] bcast_S_S1 (id (constant S_ .f32 0x3F800000#32)) : FVec Ideal S1 .f32)⟩] concatenates_S8191_S1_S8192_d0)

/-- The sixteen frequencies of the position embedding. -/
def BANDS : FVec Ideal S16 .f32 :=
  concatenate S16 0 [⟨S15, (addf (mulf (broadcastInDim S15 ![0] bcast_S1_S15_0 (shapeCast _ (id (constant S_ .f32 0x38D1B717#32)) shapeCasts_S_S1))
      (subf (broadcastInDim S15 ![] bcast_S_S15 (constant S_ .f32 0x3F800000#32)) (Host.divf (sitofp .f32 (iotaInDim S15 32 0)) (broadcastInDim S15 ![] bcast_S_S15 (constant S_ .f32 0x41700000#32)))))
    (mulf (broadcastInDim S15 ![0] bcast_S1_S15_0 (shapeCast _ (sitofp .f32 (constantI S_ 32 15#32)) shapeCasts_S_S1))
      (Host.divf (sitofp .f32 (iotaInDim S15 32 0)) (broadcastInDim S15 ![] bcast_S_S15 (constant S_ .f32 0x41700000#32)))) : FVec Ideal S15 .f32)⟩,
    ⟨S1, (broadcastInDim S1 ![] bcast_S_S1 (sitofp .f32 (constantI S_ 32 15#32)) : FVec Ideal S1 .f32)⟩] concatenates_S15_S1_S16_d0

/-- The decay rate of each channel. -/
def RATES : FVec Ideal S1024 .f32 :=
  concatenate S1024 0 [⟨S1023, (addf (mulf (broadcastInDim S1023 ![0] bcast_S1_S1023_0 (shapeCast _ (id (constant S_ .f32 0xC0447CBD#32)) shapeCasts_S_S1))
      (subf (broadcastInDim S1023 ![] bcast_S_S1023 (constant S_ .f32 0x3F800000#32)) (Host.divf (sitofp .f32 (iotaInDim S1023 32 0)) (broadcastInDim S1023 ![] bcast_S_S1023 (constant S_ .f32 0x447FC000#32)))))
    (mulf (broadcastInDim S1023 ![0] bcast_S1_S1023_0 (shapeCast _ (id (constant S_ .f32 0xC1759BEC#32)) shapeCasts_S_S1))
      (Host.divf (sitofp .f32 (iotaInDim S1023 32 0)) (broadcastInDim S1023 ![] bcast_S_S1023 (constant S_ .f32 0x447FC000#32)))) : FVec Ideal S1023 .f32)⟩,
    ⟨S1, (broadcastInDim S1 ![] bcast_S_S1 (id (constant S_ .f32 0xC1759BEC#32)) : FVec Ideal S1 .f32)⟩] concatenates_S1023_S1_S1024_d0

/-- The angle of each position in each band. -/
def ANGLE : FVec Ideal S8192x16 .f32 :=
  mulf (broadcastInDim S8192x16 ![0, 1] bcast_S1x16_S8192x16_0_1 (broadcastInDim S1x16 ![1] bcast_S16_S1x16_1 BANDS))
    (broadcastInDim S8192x16 ![0, 1] bcast_S8192x1_S8192x16_0_1 (Host.divf (mulf (broadcastInDim S8192x1 ![] bcast_S_S8192x1 (constant S_ .f32 0x40C90FDB#32))
      (broadcastInDim S8192x1 ![0] bcast_S8192_S8192x1_0 (sitofp .f32 (iotaInDim S8192 32 0)))) (broadcastInDim S8192x1 ![] bcast_S_S8192x1 (constant S_ .f32 0x46000000#32))))

/-- The position embedding: the position, sixteen cosines, sixteen negated sines. -/
def EMB : FVec Ideal S8192x33 .f32 :=
  concatenate S8192x33 1 [⟨S8192x1, TIME⟩, ⟨S8192x16, (Host.cos ANGLE : FVec Ideal S8192x16 .f32)⟩, ⟨S8192x16, (Host.negf (Host.sin ANGLE) : FVec Ideal S8192x16 .f32)⟩]
    concatenates_S8192x1_S8192x16_S8192x16_S8192x33_d1

/-- A vector of 64 at every position. -/
abbrev every (v : FVec Ideal S64 .f32) : FVec Ideal S8192x64 .f32 :=
  broadcastInDim S8192x64 ![0, 1] bcast_S1x64_S8192x64_0_1 (broadcastInDim S1x64 ![1] bcast_S64_S1x64_1 v)

/-- The first hidden layer. -/
def HID0 (A0 : FVec Ideal S1x33x64 .f32) (A1 A5 : FVec Ideal S1x64 .f32) : FVec Ideal S8192x64 .f32 :=
  Host.sin (mulf (every (shapeCast _ A5 shapeCasts_S1x64_S64)) (addf (Host.dotGeneral dot_S8192x33_S33x64_S8192x64_1_0_0_1_n_n none EMB (shapeCast _ A0 shapeCasts_S1x33x64_S33x64))
    (every (shapeCast _ A1 shapeCasts_S1x64_S64))))

/-- The second hidden layer, from the first. -/
def HID1 (H : FVec Ideal S8192x64 .f32) (A2 : FVec Ideal S1x2x64x64 .f32) (A3 : FVec Ideal S1x2x64 .f32) (A5 : FVec Ideal S1x64 .f32) : FVec Ideal S8192x64 .f32 :=
  Host.sin (mulf (every (shapeCast _ A5 shapeCasts_S1x64_S64)) (addf (Host.dotGeneral dot_S8192x64_S64x64_S8192x64_1_0_0_1_n_n none H
      (shapeCast _ (extractStridedSlice S1x1x64x64 ![0, 0, 0, 0] A2 slices_S1x2x64x64_S1x1x64x64_0_0_0_0) shapeCasts_S1x1x64x64_S64x64))
    (every (shapeCast _ (extractStridedSlice S1x1x64 ![0, 0, 0] A3 slices_S1x2x64_S1x1x64_0_0_0) shapeCasts_S1x1x64_S64))))

/-- The third hidden layer, from the second. -/
def HID2 (H : FVec Ideal S8192x64 .f32) (A2 : FVec Ideal S1x2x64x64 .f32) (A3 : FVec Ideal S1x2x64 .f32) (A5 : FVec Ideal S1x64 .f32) : FVec Ideal S8192x64 .f32 :=
  Host.sin (mulf (every (shapeCast _ A5 shapeCasts_S1x64_S64)) (addf (Host.dotGeneral dot_S8192x64_S64x64_S8192x64_1_0_0_1_n_n none H
      (shapeCast _ (extractStridedSlice S1x1x64x64 ![0, 1, 0, 0] A2 slices_S1x2x64x64_S1x1x64x64_0_1_0_0) shapeCasts_S1x1x64x64_S64x64))
    (every (shapeCast _ (extractStridedSlice S1x1x64 ![0, 1, 0] A3 slices_S1x2x64_S1x1x64_0_1_0) shapeCasts_S1x1x64_S64))))

/-- The output layer: both directions' filters before their decay. -/
def NET (A0 : FVec Ideal S1x33x64 .f32) (A1 : FVec Ideal S1x64 .f32) (A2 : FVec Ideal S1x2x64x64 .f32) (A3 : FVec Ideal S1x2x64 .f32)
    (A4 : FVec Ideal S1x64x2048 .f32) (A5 : FVec Ideal S1x64 .f32) : FVec Ideal S8192x2048 .f32 :=
  Host.dotGeneral dot_S8192x64_S64x2048_S8192x2048_1_0_0_1_n_n none (HID2 (HID1 (HID0 A0 A1 A5) A2 A3 A5) A2 A3 A5) (shapeCast _ A4 shapeCasts_S1x64x2048_S64x2048)

/-- The decay of each channel at each position. -/
def DECAY : FVec Ideal S8192x1024 .f32 :=
  Host.exp (mulf (broadcastInDim S8192x1024 ![0, 1] bcast_S8192x1_S8192x1024_0_1 (Host.negf TIME))
    (broadcastInDim S8192x1024 ![0, 1] bcast_S1x1024_S8192x1024_0_1 (Host.absf (broadcastInDim S1x1024 ![1] bcast_S1024_S1x1024_1 RATES))))

/-- The forward filter. -/
def FWD (N : FVec Ideal S8192x2048 .f32) : FVec Ideal S8192x1024 .f32 := mulf (extractStridedSlice S8192x1024 ![0, 0] N slices_S8192x2048_S8192x1024_0_0) DECAY

/-- The backward filter, its first tap zero. -/
def BWD (N : FVec Ideal S8192x2048 .f32) : FVec Ideal S8192x1024 .f32 :=
  concatenate S8192x1024 0 [⟨S1x1024, (broadcastInDim S1x1024 ![] bcast_S_S1x1024 (constant S_ .f32 0x00000000#32) : FVec Ideal S1x1024 .f32)⟩,
    ⟨S8191x1024, (extractStridedSlice S8191x1024 ![1, 0] (mulf (extractStridedSlice S8192x1024 ![0, 1024] N slices_S8192x2048_S8192x1024_0_1024) DECAY)
      slices_S8192x1024_S8191x1024_1_0 : FVec Ideal S8191x1024 .f32)⟩] concatenates_S1x1024_S8191x1024_S8192x1024_d0

/-- Two filters, stacked. -/
def STACK (P Q : FVec Ideal S8192x1024 .f32) : FVec Ideal S2x8192x1024 .f32 :=
  concatenate S2x8192x1024 0
    [⟨S1x8192x1024, (broadcastInDim S1x8192x1024 ![1, 2] bcast_S8192x1024_S1x8192x1024_1_2 P : FVec Ideal S1x8192x1024 .f32)⟩,
      ⟨S1x8192x1024, (broadcastInDim S1x8192x1024 ![1, 2] bcast_S8192x1024_S1x8192x1024_1_2 Q : FVec Ideal S1x8192x1024 .f32)⟩] concatenates_S1x8192x1024_S1x8192x1024_S2x8192x1024_d0

/-- The reference's first result, from the two filters: both, their rows taken eight by eight from blocks of 128. -/
def REFt (P Q : FVec Ideal S8192x1024 .f32) : FVec Ideal S2x16x512x1024 .f32 :=
  shapeCast S2x16x512x1024 (transpose S2x16x64x8x1024 [0, 2, 1, 3, 4] (shapeCast S2x64x16x8x1024 (STACK P Q)
    shapeCasts_S2x8192x1024_S2x64x16x8x1024) transposes_S2x64x16x8x1024_S2x16x64x8x1024_0_2_1_3_4) shapeCasts_S2x16x64x8x1024_S2x16x512x1024

/-- The second: one over the sum of the filters' absolute values, scaled by twice their length. -/
def REFs (P Q : FVec Ideal S8192x1024 .f32) : FVec Ideal S1024 .f32 :=
  Host.divf (broadcastInDim S1024 ![] bcast_S_S1024 (constant S_ .f32 0x3F800000#32))
    (mulf (Host.reduceAdd (addf (Host.absf P) (Host.absf Q)) (constant S_ .f32 0x00000000#32) reducesTo_S8192x1024_S1024_d0 h_S_)
      (broadcastInDim S1024 ![] bcast_S_S1024 (constant S_ .f32 0x46800000#32)))

/-- Position `n` as a float. -/
def pos (n : ℕ) : Ideal .f32 := FloatOps.sitofp (F := Ideal) FTy.f32 (BitVec.ofNat 32 n)

/-- Position `n` scaled to the interval from 0 to 1. -/
def time (n : ℕ) : Ideal .f32 := FloatOps.divf (F := Ideal) (pos n) (FloatOps.ofBits FTy.f32 0x45FFF800#32)

/-- The angle of position `n` at frequency `f`. -/
def angle (n : ℕ) (f : Ideal .f32) : Ideal .f32 :=
  f * FloatOps.divf (F := Ideal) (FloatOps.ofBits (F := Ideal) FTy.f32 0x40C90FDB#32 * pos n : Ideal .f32) (FloatOps.ofBits FTy.f32 0x46000000#32)

/-- Entry `k` of the embedding of position `n`. -/
def emb (n : ℕ) (k : Fin 33) : Ideal .f32 :=
  if (k : ℕ) = 0 then time n else if h : (k : ℕ) ≤ 16 then FloatOps.cos (F := Ideal) (angle n (BANDS (ix1 ⟨(k : ℕ) - 1, by omega⟩)))
    else - FloatOps.sin (F := Ideal) (angle n (BANDS (ix1 ⟨(k : ℕ) - 17, by omega⟩)))

/-- One unit of a hidden layer: the sine of its frequency times the layer's sum with its bias. -/
def unit {K : ℕ} (f b : Ideal .f32) (z w : Fin K → Ideal .f32) : Ideal .f32 := FloatOps.sin (F := Ideal) (f * ((∑ k, z k * w k : Ideal .f32) + b) : Ideal .f32)

/-- Unit `j` of the first hidden layer at position `n`. -/
def hid0 (A0 : FVec Ideal S1x33x64 .f32) (A1 A5 : FVec Ideal S1x64 .f32) (n : ℕ) (j : Fin 64) : Ideal .f32 :=
  unit (A5 (ix2 0 j)) (A1 (ix2 0 j)) (emb n) fun k => A0 (ix3 0 k j)

/-- Unit `j` of the second (`i` is 0) or third (`i` is 1) hidden layer, from the layer before. -/
def hidNext (i : Fin 2) (z : Fin 64 → Ideal .f32) (A2 : FVec Ideal S1x2x64x64 .f32) (A3 : FVec Ideal S1x2x64 .f32) (A5 : FVec Ideal S1x64 .f32) (j : Fin 64) : Ideal .f32 :=
  unit (A5 (ix2 0 j)) (A3 (ix3 0 i j)) z fun k => A2 (ix4 0 i k j)

/-- Output `d` of the network at position `n`. -/
def net (A0 : FVec Ideal S1x33x64 .f32) (A1 : FVec Ideal S1x64 .f32) (A2 : FVec Ideal S1x2x64x64 .f32) (A3 : FVec Ideal S1x2x64 .f32)
    (A4 : FVec Ideal S1x64x2048 .f32) (A5 : FVec Ideal S1x64 .f32) (n : ℕ) (d : Fin 2048) : Ideal .f32 :=
  ∑ k : Fin 64, hidNext 1 (hidNext 0 (hid0 A0 A1 A5 n) A2 A3 A5) A2 A3 A5 k * A4 (ix3 0 k d)

/-- The decay of channel `d` at position `n`. -/
def decay (n : ℕ) (d : Fin 1024) : Ideal .f32 :=
  FloatOps.exp (F := Ideal) (-(time n) * FloatOps.absf (F := Ideal) (RATES (ix1 d)) : Ideal .f32)

/-- The last position scaled is 1. -/
theorem time_last : time 8191 = 1 := by
  have e0 : pos 8191 = ((8191 : ℝ) : EReal) := by
    show ((((BitVec.ofNat 32 8191).toInt : ℤ) : ℝ) : EReal) = _
    rw [show (BitVec.ofNat 32 8191).toInt = 8191 by decide]
    norm_num
  have e1 : Ideal.ofBits .f32 0x45FFF800#32 = ((8191 : ℝ) : EReal) := by
    simp [Ideal.ofBits, Ideal.ieee, -EReal.coe_mul]; norm_num
  have hn : ((8191 : ℝ) : EReal) ≠ 0 := by exact_mod_cast (by norm_num : (8191 : ℝ) ≠ 0)
  unfold time
  show Ideal.div (pos 8191) (Ideal.ofBits .f32 0x45FFF800#32) = 1
  rw [e0, e1, Ideal.div, if_neg hn, ← EReal.coe_inv, ← EReal.coe_mul]
  norm_num

/-- One entry of the scaled positions. -/
theorem TIME_at (n : Fin 8192) : TIME (ix2 n 0) = time n := by
  have h0 : (id (constant S_ .f32 0x00000000#32) : FVec Ideal S_ .f32) ix0 = (0 : EReal) := Ideal.ofBits_zero_f32
  have h1 : (id (constant S_ .f32 0x3F800000#32) : FVec Ideal S_ .f32) ix0 = (1 : EReal) := Ideal.ofBits_one_f32
  unfold TIME
  pointwise []
  by_cases h : (n : ℕ) < 8191
  · rw [dif_pos h, h0, h1, zero_mul, zero_add, one_mul]
    rfl
  · have e : (n : ℕ) = 8191 := by omega
    rw [dif_neg h, e, time_last, h1]

/-- One angle. -/
theorem ANGLE_at (n : Fin 8192) (k : Fin 16) : ANGLE (ix2 n k) = angle n (BANDS (ix1 k)) := by
  unfold ANGLE angle pos
  generalize BANDS = B
  pointwise []

/-- One entry of the position embedding. -/
theorem EMB_at (n : Fin 8192) (k : Fin 33) : EMB (ix2 n k) = emb n k := by
  unfold EMB emb
  have hT := TIME_at n
  have hA := ANGLE_at n
  generalize TIME = T at hT ⊢
  generalize ANGLE = A at hA ⊢
  pointwise []
  by_cases h0 : (k : ℕ) = 0
  · rw [if_pos h0, dif_pos (by omega), ← hT]
    blk_ext
  · rw [if_neg h0, dif_neg (by omega)]
    by_cases h1 : (k : ℕ) ≤ 16
    · rw [dif_pos h1, dif_pos (by omega), hA]
    · rw [dif_neg h1, dif_neg (by omega), hA]
      rfl

/-- One unit of the first hidden layer. -/
theorem HID0_at (A0 : FVec Ideal S1x33x64 .f32) (A1 A5 : FVec Ideal S1x64 .f32) (n : Fin 8192) (j : Fin 64) : HID0 A0 A1 A5 (ix2 n j) = hid0 A0 A1 A5 n j := by
  unfold HID0 hid0 unit
  have hE := EMB_at n
  generalize EMB = E at hE ⊢
  pointwise [hE]

/-- One unit of the second hidden layer. -/
theorem HID1_at (H : FVec Ideal S8192x64 .f32) (A2 : FVec Ideal S1x2x64x64 .f32) (A3 : FVec Ideal S1x2x64 .f32) (A5 : FVec Ideal S1x64 .f32) (n : Fin 8192) (j : Fin 64) :
    HID1 H A2 A3 A5 (ix2 n j) = hidNext 0 (fun k => H (ix2 n k)) A2 A3 A5 j := by
  pointwise [HID1, hidNext, unit]

/-- One unit of the third hidden layer. -/
theorem HID2_at (H : FVec Ideal S8192x64 .f32) (A2 : FVec Ideal S1x2x64x64 .f32) (A3 : FVec Ideal S1x2x64 .f32) (A5 : FVec Ideal S1x64 .f32) (n : Fin 8192) (j : Fin 64) :
    HID2 H A2 A3 A5 (ix2 n j) = hidNext 1 (fun k => H (ix2 n k)) A2 A3 A5 j := by
  pointwise [HID2, hidNext, unit]

/-- One output of the network. -/
theorem NET_at (A0 : FVec Ideal S1x33x64 .f32) (A1 : FVec Ideal S1x64 .f32) (A2 : FVec Ideal S1x2x64x64 .f32) (A3 : FVec Ideal S1x2x64 .f32)
    (A4 : FVec Ideal S1x64x2048 .f32) (A5 : FVec Ideal S1x64 .f32) (n : Fin 8192) (d : Fin 2048) : NET A0 A1 A2 A3 A4 A5 (ix2 n d) = net A0 A1 A2 A3 A4 A5 n d := by
  unfold NET net
  have h2 := fun k => HID2_at (HID1 (HID0 A0 A1 A5) A2 A3 A5) A2 A3 A5 n k
  simp only [HID1_at, HID0_at] at h2
  generalize HID2 _ _ _ _ = H at h2 ⊢
  pointwise [h2]

/-- One entry of the decay. -/
theorem DECAY_at (n : Fin 8192) (d : Fin 1024) : DECAY (ix2 n d) = decay n d := by
  unfold DECAY decay
  have hT := TIME_at n
  generalize TIME = T at hT ⊢
  generalize RATES = R
  pointwise [hT]

/-- One tap of the forward filter. -/
theorem FWD_at (N : FVec Ideal S8192x2048 .f32) (n : Fin 8192) (d : Fin 1024) : FWD N (ix2 n d) = N (ix2 n ⟨d, by omega⟩) * decay n d := by
  unfold FWD
  have hD := DECAY_at n d
  generalize DECAY = D at hD ⊢
  pointwise [hD]

/-- One tap of the backward filter. -/
theorem BWD_at (N : FVec Ideal S8192x2048 .f32) (n : Fin 8192) (d : Fin 1024) :
    BWD N (ix2 n d) = if (n : ℕ) = 0 then 0 else N (ix2 n ⟨1024 + d, by omega⟩) * decay n d := by
  unfold BWD
  have hD := DECAY_at n d
  generalize DECAY = D at hD ⊢
  pointwise []
  by_cases h : (n : ℕ) = 0
  · rw [dif_pos (by omega), if_pos h]
  · have e : (⟨1 + ((n : ℕ) - 1), by omega⟩ : Fin 8192) = n := Fin.ext (by dsimp only; omega)
    rw [dif_neg (by omega), if_neg h, e, hD]

/-- One entry of the second result: the sum is over all rows. -/
theorem REFs_at (P Q : FVec Ideal S8192x1024 .f32) (d : Fin 1024) : REFs P Q (ix1 d)
    = FloatOps.divf (F := Ideal) (1 : EReal) ((∑ r : Fin 8192, (FloatOps.absf (F := Ideal) (P (ix2 r d)) + FloatOps.absf (F := Ideal) (Q (ix2 r d)) : Ideal .f32) : Ideal .f32) * FloatOps.ofBits (F := Ideal) FTy.f32 0x46800000#32 : Ideal .f32) := by
  pointwise [REFs]

end Cert.FilterRefIdeal.Value

end
-- ==== Proof.FilterHeld.lean ====
/- The network of the Hyena operator's filter: what the kernel holds of the padded weights at one grid point. -/
module

public import proofs.«01_k».proof.Proof.Corner
public import proofs.«01_k».proof.Proof.Gen.FilterIdeal.Frame
public import proofs.«01_k».proof.Proof.FilterReference

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen
open Cert.FilterRefIdeal.Value (BANDS RATES)

variable (m : (ℓ : Loc nD τ sig) → Buf (Elt Ideal) ℓ)

/-- Which blocks the windows hold at a point: all of the inputs, and the block of the results. -/
theorem idx : ∀ t : Fin cfg0.N, win0_0.index t = ![0, 0] ∧ win0_1.index t = ![0, 0] ∧ win0_2.index t = ![0, 0] ∧ win0_3.index t = ![0, 0, 0]
    ∧ win0_4.index t = ![0, 0, 0] ∧ win0_5.index t = ![0, 0] ∧ win0_6.index t = ![0, 0] ∧ win0_7.index t = ![0, 0]
    ∧ win0_8.index t = ![0, 0, (t : ℕ), 0] ∧ win0_9.index t = ![(t : ℕ), 0, 0] ∧ (grid0.coords t 0 : ℕ) = (t : ℕ) :=
  (by decide +kernel : ∀ t : Fin grid0.N, _)

/-- One index word, zero. -/
abbrev zero1 : IVec S1 32 := broadcastInDim S1 ![] bcast_S_S1 (constantI S_ 32 0#32)

/-- Two index words. -/
abbrev words (a b : BitVec 32) : IVec S2 32 :=
  concatenate S2 0 [⟨S1, (broadcastInDim S1 ![] bcast_S_S1 (constantI S_ 32 a) : IVec S1 32)⟩, ⟨S1, (broadcastInDim S1 ![] bcast_S_S1 (constantI S_ 32 b) : IVec S1 32)⟩] concatenates_S1_S1_S2_d0

/-- The first of two index words. -/
theorem words_fst (a b : BitVec 32) : words a b (ix1 0) = a := by
  pointwise [words]

/-- The second. -/
theorem words_snd (a b : BitVec 32) : words a b (ix1 1) = b := by
  pointwise [words]

/-- Two zero words are zero. -/
theorem words_zero (i : S2.Idx) : (words 0#32 0#32 i).toInt = 0 := by
  obtain ⟨j, rfl⟩ : ∃ j : Fin 2, i = ix1 j := ⟨i 0, eq_ix1 i⟩
  fin_cases j
  · exact congrArg BitVec.toInt (words_fst _ _)
  · exact congrArg BitVec.toInt (words_snd _ _)

/-- The word zero is zero. -/
theorem zero1_zero (i : S1.Idx) : (zero1 i).toInt = 0 := rfl

/-- The bands as the call is given them. -/
theorem bands_V (c : Dev nD) : V m c main_v15
    = (Host.scatter scatter_S1x128_S2_S16_0_0_01_0 (fun _ b => b) (Host.scatter scatter_S1x128_S2_S16_0_0_01_0 (fun _ b => b)
        (broadcastInDim S1x128 ![] bcast_S_S1x128 (constant (F := Ideal) S_ .f32 0x00000000#32)) (words 0#32 1#32) BANDS) (words 0#32 17#32) BANDS : FVec Ideal S1x128 .f32) := by
  unfold V V0
  simp only [hostOps0, hostOps0_1, hostOps0_2, hostOps0_3, hostOps0_4, List.flatten_cons, List.flatten_nil, List.cons_append, List.nil_append, List.append_nil,
    StableHlo.TRef.binary, StableHlo.TRef.nullary, StableHlo.TRef.reshape, StableHlo.TRef.unary, StableHlo.TRef.toBuf, StableHlo.TRef.ofBuf, cast_eq]
  after_results
  try rfl

/-- The decay rates as the call is given them. -/
theorem rates_V (c : Dev nD) : V m c main_v17
    = (broadcastInDim S1x1024 ![1] bcast_S1024_S1x1024_1 RATES : FVec Ideal S1x1024 .f32) := by
  unfold V V0
  simp only [hostOps0, hostOps0_1, hostOps0_2, hostOps0_3, hostOps0_4, List.flatten_cons, List.flatten_nil, List.cons_append, List.nil_append, List.append_nil,
    StableHlo.TRef.binary, StableHlo.TRef.nullary, StableHlo.TRef.reshape, StableHlo.TRef.unary, StableHlo.TRef.toBuf, StableHlo.TRef.ofBuf, cast_eq]
  after_results
  try rfl

/-- The first layer's weights as the call is given them. -/
theorem w0_V (c : Dev nD) : V m c main_v22
    = (Host.scatter scatter_S128x128_S2_S33x64_01_n_01_0 (fun _ b => b) (broadcastInDim S128x128 ![] bcast_S_S128x128 (constant (F := Ideal) S_ .f32 0x00000000#32))
        (words 0#32 0#32) (shapeCast S33x64 (m ((c : Thread nD τ).loc main_arg0)) shapeCasts_S1x33x64_S33x64) : FVec Ideal S128x128 .f32) := by
  unfold V V0
  simp only [hostOps0, hostOps0_1, hostOps0_2, hostOps0_3, hostOps0_4, List.flatten_cons, List.flatten_nil, List.cons_append, List.nil_append, List.append_nil]
  after_results
  try rfl

/-- The first layer's bias as the call is given it. -/
theorem b0_V (c : Dev nD) : V m c main_v26
    = (Host.scatter scatter_S1x128_S1_S1x64_01_n_1_0 (fun _ b => b) (broadcastInDim S1x128 ![] bcast_S_S1x128 (constant (F := Ideal) S_ .f32 0x00000000#32))
        zero1 (broadcastInDim S1x64 ![1] bcast_S64_S1x64_1 (shapeCast S64 (m ((c : Thread nD τ).loc main_arg1)) shapeCasts_S1x64_S64)) : FVec Ideal S1x128 .f32) := by
  unfold V V0
  simp only [hostOps0, hostOps0_1, hostOps0_2, hostOps0_3, hostOps0_4, List.flatten_cons, List.flatten_nil, List.cons_append, List.nil_append, List.append_nil]
  after_results
  try rfl

/-- The inner layers' weights as the call is given them. -/
theorem win_V (c : Dev nD) : V m c main_v31
    = (Host.scatter scatter_S2x128x128_S2_S2x64x64_012_n_12_0 (fun _ b => b) (broadcastInDim S2x128x128 ![] bcast_S_S2x128x128 (constant (F := Ideal) S_ .f32 0x00000000#32))
        (words 0#32 0#32) (shapeCast S2x64x64 (m ((c : Thread nD τ).loc main_arg2)) shapeCasts_S1x2x64x64_S2x64x64) : FVec Ideal S2x128x128 .f32) := by
  unfold V V0
  simp only [hostOps0, hostOps0_1, hostOps0_2, hostOps0_3, hostOps0_4, List.flatten_cons, List.flatten_nil, List.cons_append, List.nil_append, List.append_nil]
  after_results
  try rfl

/-- The inner layers' biases as the call is given them. -/
theorem bin_V (c : Dev nD) : V m c main_v35
    = (Host.scatter scatter_S2x1x128_S1_S2x1x64_012_n_2_0 (fun _ b => b) (broadcastInDim S2x1x128 ![] bcast_S_S2x1x128 (constant (F := Ideal) S_ .f32 0x00000000#32))
        zero1 (broadcastInDim S2x1x64 ![0, 2] bcast_S2x64_S2x1x64_0_2 (shapeCast S2x64 (m ((c : Thread nD τ).loc main_arg3)) shapeCasts_S1x2x64_S2x64)) : FVec Ideal S2x1x128 .f32) := by
  unfold V V0
  simp only [hostOps0, hostOps0_1, hostOps0_2, hostOps0_3, hostOps0_4, List.flatten_cons, List.flatten_nil, List.cons_append, List.nil_append, List.append_nil]
  after_results
  try rfl

/-- The last layer's weights as the call is given them. -/
theorem wout_V (c : Dev nD) : V m c main_v38
    = (Host.scatter scatter_S128x2048_S1_S64x2048_01_n_0_0 (fun _ b => b) (broadcastInDim S128x2048 ![] bcast_S_S128x2048 (constant (F := Ideal) S_ .f32 0x00000000#32))
        zero1 (shapeCast S64x2048 (m ((c : Thread nD τ).loc main_arg4)) shapeCasts_S1x64x2048_S64x2048) : FVec Ideal S128x2048 .f32) := by
  unfold V V0
  simp only [hostOps0, hostOps0_1, hostOps0_2, hostOps0_3, hostOps0_4, List.flatten_cons, List.flatten_nil, List.cons_append, List.nil_append, List.append_nil]
  after_results
  try rfl

/-- The frequencies as the call is given them. -/
theorem freq_V (c : Dev nD) : V m c main_v42
    = (Host.scatter scatter_S1x128_S1_S1x64_01_n_1_0 (fun _ b => b) (broadcastInDim S1x128 ![] bcast_S_S1x128 (constant (F := Ideal) S_ .f32 0x00000000#32))
        zero1 (broadcastInDim S1x64 ![1] bcast_S64_S1x64_1 (shapeCast S64 (m ((c : Thread nD τ).loc main_arg5)) shapeCasts_S1x64_S64)) : FVec Ideal S1x128 .f32) := by
  unfold V V0
  simp only [hostOps0, hostOps0_1, hostOps0_2, hostOps0_3, hostOps0_4, List.flatten_cons, List.flatten_nil, List.cons_append, List.nil_append, List.append_nil]
  after_results
  try rfl

/-- The block of window 0 is the whole array. -/
theorem bands_blk (t : Fin cfg0.N) (A : FVec Ideal S1x128 .f32) (r : Fin 1) (q : Fin 128) :
    (win0_0.blk t).view.read (Elt Ideal) A (ix2 r q) = A (ix2 r q) := by
  blk_point [idx t]

/-- The block of window 1 is the whole array. -/
theorem w0_blk (t : Fin cfg0.N) (A : FVec Ideal S128x128 .f32) (r : Fin 128) (q : Fin 128) :
    (win0_1.blk t).view.read (Elt Ideal) A (ix2 r q) = A (ix2 r q) := by
  blk_point [idx t]

/-- The block of window 2 is the whole array. -/
theorem b0_blk (t : Fin cfg0.N) (A : FVec Ideal S1x128 .f32) (r : Fin 1) (q : Fin 128) :
    (win0_2.blk t).view.read (Elt Ideal) A (ix2 r q) = A (ix2 r q) := by
  blk_point [idx t]

/-- The block of window 3 is the whole array. -/
theorem win_blk (t : Fin cfg0.N) (A : FVec Ideal S2x128x128 .f32) (a : Fin 2) (r : Fin 128) (q : Fin 128) :
    (win0_3.blk t).view.read (Elt Ideal) A (ix3 a r q) = A (ix3 a r q) := by
  blk_point [idx t]

/-- The block of window 4 is the whole array. -/
theorem bin_blk (t : Fin cfg0.N) (A : FVec Ideal S2x1x128 .f32) (a : Fin 2) (r : Fin 1) (q : Fin 128) :
    (win0_4.blk t).view.read (Elt Ideal) A (ix3 a r q) = A (ix3 a r q) := by
  blk_point [idx t]

/-- The block of window 5 is the whole array. -/
theorem wout_blk (t : Fin cfg0.N) (A : FVec Ideal S128x2048 .f32) (r : Fin 128) (q : Fin 2048) :
    (win0_5.blk t).view.read (Elt Ideal) A (ix2 r q) = A (ix2 r q) := by
  blk_point [idx t]

/-- The block of window 6 is the whole array. -/
theorem freq_blk (t : Fin cfg0.N) (A : FVec Ideal S1x128 .f32) (r : Fin 1) (q : Fin 128) :
    (win0_6.blk t).view.read (Elt Ideal) A (ix2 r q) = A (ix2 r q) := by
  blk_point [idx t]

/-- The block of window 7 is the whole array. -/
theorem rates_blk (t : Fin cfg0.N) (A : FVec Ideal S1x1024 .f32) (r : Fin 1) (q : Fin 1024) :
    (win0_7.blk t).view.read (Elt Ideal) A (ix2 r q) = A (ix2 r q) := by
  blk_point [idx t]

/-- The bands the kernel holds under the cosines. -/
theorem low_at (c : Dev nD) (t : Fin cfg0.N) (q : Fin 128) (h1 : 1 ≤ (q : ℕ)) (h2 : (q : ℕ) ≤ 16) : iblk m c 0 t (ix2 0 q) = BANDS (ix1 ⟨(q : ℕ) - 1, by omega⟩) := by
  unfold iblk
  refine (bands_blk t _ 0 q).trans ((congrFun (bands_V m c) _).trans ((Cert.Corner.miss_row _ 17 _ (fun _ => ?_) (fun _ => rfl) _ _ q (.inl (by omega))).trans
    (Cert.Corner.hit_row _ 1 _ (fun _ => ?_) (fun _ => ?_) (fun _ => rfl) (fun _ => rfl) _ _ q h1 (by omega))))
  · exact congrArg BitVec.toInt (words_snd 0#32 17#32)
  · exact congrArg BitVec.toInt (words_fst 0#32 1#32)
  · exact congrArg BitVec.toInt (words_snd 0#32 1#32)

/-- The bands the kernel holds under the sines. -/
theorem high_at (c : Dev nD) (t : Fin cfg0.N) (q : Fin 128) (h1 : 17 ≤ (q : ℕ)) (h2 : (q : ℕ) ≤ 32) : iblk m c 0 t (ix2 0 q) = BANDS (ix1 ⟨(q : ℕ) - 17, by omega⟩) := by
  unfold iblk
  refine (bands_blk t _ 0 q).trans ((congrFun (bands_V m c) _).trans
    (Cert.Corner.hit_row _ 17 _ (fun _ => ?_) (fun _ => ?_) (fun _ => rfl) (fun _ => rfl) _ _ q h1 (by omega)))
  · exact congrArg BitVec.toInt (words_fst 0#32 17#32)
  · exact congrArg BitVec.toInt (words_snd 0#32 17#32)

/-- The decay rates the kernel holds. -/
theorem rates_at (c : Dev nD) (t : Fin cfg0.N) (d : Fin 1024) : iblk m c 7 t (ix2 0 d) = RATES (ix1 d) := by
  unfold iblk
  refine (rates_blk t _ 0 d).trans ((congrFun (rates_V m c) _).trans ?_)
  generalize RATES = R
  pointwise []

/-- The first axis of one entry dropped. -/
theorem w0_flat (X : FVec Ideal S1x33x64 .f32) (k : Fin 33) (j : Fin 64) : shapeCast S33x64 X shapeCasts_S1x33x64_S33x64 (ix2 k j) = X (ix3 0 k j) := by
  pointwise []

/-- A row read as a vector and as a row again. -/
theorem row_flat (X : FVec Ideal S1x64 .f32) (j : Fin 64) : broadcastInDim S1x64 ![1] bcast_S64_S1x64_1 (shapeCast S64 X shapeCasts_S1x64_S64) (ix2 0 j) = X (ix2 0 j) := by
  pointwise []

/-- The first axis of one entry dropped. -/
theorem win_flat (X : FVec Ideal S1x2x64x64 .f32) (i : Fin 2) (k j : Fin 64) : shapeCast S2x64x64 X shapeCasts_S1x2x64x64_S2x64x64 (ix3 i k j) = X (ix4 0 i k j) := by
  pointwise []

/-- The first axis of one entry moved to the middle. -/
theorem bin_flat (X : FVec Ideal S1x2x64 .f32) (i : Fin 2) (j : Fin 64) : broadcastInDim S2x1x64 ![0, 2] bcast_S2x64_S2x1x64_0_2 (shapeCast S2x64 X shapeCasts_S1x2x64_S2x64) (ix3 i 0 j) = X (ix3 0 i j) := by
  pointwise []

/-- The first axis of one entry dropped. -/
theorem wout_flat (X : FVec Ideal S1x64x2048 .f32) (k : Fin 64) (d : Fin 2048) : shapeCast S64x2048 X shapeCasts_S1x64x2048_S64x2048 (ix2 k d) = X (ix3 0 k d) := by
  pointwise []

/-- The first layer's weights the kernel holds. -/
theorem w0_at (c : Dev nD) (t : Fin cfg0.N) (k j : Fin 128) (hk : (k : ℕ) < 33) (hj : (j : ℕ) < 64) : iblk m c 1 t (ix2 k j) = m ((c : Thread nD τ).loc main_arg0) (ix3 0 ⟨k, hk⟩ ⟨j, hj⟩) := by
  unfold iblk
  exact (w0_blk t _ k j).trans ((congrFun (w0_V m c) _).trans ((Cert.Corner.hit2 _ (fun _ => rfl) (fun _ => rfl) _ _ words_zero _ k j hk hj).trans (w0_flat _ _ _)))

/-- The first layer's bias the kernel holds. -/
theorem b0_at (c : Dev nD) (t : Fin cfg0.N) (j : Fin 128) (hj : (j : ℕ) < 64) : iblk m c 2 t (ix2 0 j) = m ((c : Thread nD τ).loc main_arg1) (ix2 0 ⟨j, hj⟩) := by
  unfold iblk
  exact (b0_blk t _ 0 j).trans ((congrFun (b0_V m c) _).trans ((Cert.Corner.hit2 _ (fun _ => rfl) (fun _ => rfl) _ _ zero1_zero _ 0 j (by decide) hj).trans (row_flat _ _)))

/-- The inner layers' weights the kernel holds. -/
theorem win_at (c : Dev nD) (t : Fin cfg0.N) (i : Fin 2) (k j : Fin 128) (hk : (k : ℕ) < 64) (hj : (j : ℕ) < 64) : iblk m c 3 t (ix3 i k j) = m ((c : Thread nD τ).loc main_arg2) (ix4 0 i ⟨k, hk⟩ ⟨j, hj⟩) := by
  unfold iblk
  exact (win_blk t _ i k j).trans ((congrFun (win_V m c) _).trans ((Cert.Corner.hit3 _ (fun _ => rfl) (fun _ => rfl) (fun _ => rfl) _ _ words_zero _ i k j i.isLt hk hj).trans (win_flat _ _ _ _)))

/-- The inner layers' biases the kernel holds. -/
theorem bin_at (c : Dev nD) (t : Fin cfg0.N) (i : Fin 2) (j : Fin 128) (hj : (j : ℕ) < 64) : iblk m c 4 t (ix3 i 0 j) = m ((c : Thread nD τ).loc main_arg3) (ix3 0 i ⟨j, hj⟩) := by
  unfold iblk
  exact (bin_blk t _ i 0 j).trans ((congrFun (bin_V m c) _).trans ((Cert.Corner.hit3 _ (fun _ => rfl) (fun _ => rfl) (fun _ => rfl) _ _ zero1_zero _ i 0 j i.isLt (by decide) hj).trans (bin_flat _ _ _)))

/-- The last layer's weights the kernel holds. -/
theorem wout_at (c : Dev nD) (t : Fin cfg0.N) (k : Fin 128) (d : Fin 2048) (hk : (k : ℕ) < 64) : iblk m c 5 t (ix2 k d) = m ((c : Thread nD τ).loc main_arg4) (ix3 0 ⟨k, hk⟩ d) := by
  unfold iblk
  exact (wout_blk t _ k d).trans ((congrFun (wout_V m c) _).trans ((Cert.Corner.hit2 _ (fun _ => rfl) (fun _ => rfl) _ _ zero1_zero _ k d hk d.isLt).trans (wout_flat _ _ _)))

/-- The frequencies the kernel holds. -/
theorem freq_at (c : Dev nD) (t : Fin cfg0.N) (j : Fin 128) (hj : (j : ℕ) < 64) : iblk m c 6 t (ix2 0 j) = m ((c : Thread nD τ).loc main_arg5) (ix2 0 ⟨j, hj⟩) := by
  unfold iblk
  exact (freq_blk t _ 0 j).trans ((congrFun (freq_V m c) _).trans ((Cert.Corner.hit2 _ (fun _ => rfl) (fun _ => rfl) _ _ zero1_zero _ 0 j (by decide) hj).trans (row_flat _ _)))

/-- Past the embedding's 33 entries the first layer's weights are zero. -/
theorem w0_pad (c : Dev nD) (t : Fin cfg0.N) (k j : Fin 128) (hk : 33 ≤ (k : ℕ)) : iblk m c 1 t (ix2 k j) = (0 : EReal) := by
  unfold iblk
  exact (w0_blk t _ k j).trans ((congrFun (w0_V m c) _).trans ((Cert.Corner.miss2 _ (fun _ => rfl) (fun _ => rfl) _ _ words_zero _ k j (.inl hk)).trans Ideal.ofBits_zero_f32))

/-- Past the 64 hidden entries the inner layers' weights are zero. -/
theorem win_pad (c : Dev nD) (t : Fin cfg0.N) (i : Fin 2) (k j : Fin 128) (hk : 64 ≤ (k : ℕ)) : iblk m c 3 t (ix3 i k j) = (0 : EReal) := by
  unfold iblk
  exact (win_blk t _ i k j).trans ((congrFun (win_V m c) _).trans ((Cert.Corner.miss3 _ (fun _ => rfl) (fun _ => rfl) (fun _ => rfl) _ _ words_zero _ i k j (.inl hk)).trans Ideal.ofBits_zero_f32))

/-- Past the 64 hidden entries the last layer's weights are zero. -/
theorem wout_pad (c : Dev nD) (t : Fin cfg0.N) (k : Fin 128) (d : Fin 2048) (hk : 64 ≤ (k : ℕ)) : iblk m c 5 t (ix2 k d) = (0 : EReal) := by
  unfold iblk
  exact (wout_blk t _ k d).trans ((congrFun (wout_V m c) _).trans ((Cert.Corner.miss2 _ (fun _ => rfl) (fun _ => rfl) _ _ zero1_zero _ k d (.inl hk)).trans Ideal.ofBits_zero_f32))

end Cert.FilterIdeal.Value

end
-- ==== Proof.FilterNet.lean ====
/- The network of the Hyena operator's filter: the kernel's layers over the padded weights are the reference's. -/
module

public import proofs.«01_k».proof.Proof.FilterHeld

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen
open Cert.FilterRefIdeal.Value (BANDS RATES pos time angle emb unit hid0 hidNext net decay)

/-- A sum over more terms than `K`, zero from the `K`-th on, is the sum of the first `K`. -/
theorem sum_pad {K L : ℕ} (f : Fin (K + L) → EReal) (hz : ∀ k : Fin L, f (Fin.natAdd K k) = 0) : ∑ k, f k = ∑ k : Fin K, f (Fin.castAdd L k) := by
  rw [Fin.sum_univ_add, Finset.sum_eq_zero fun k _ => hz k, add_zero]

/-- Which lane is the first. -/
theorem lane_zero : ∀ k : Fin 128, IntOp.cmpi .eq (BitVec.ofNat 32 (k : ℕ)) 0#32 = if (k : ℕ) = 0 then 1#1 else 0#1 := by decide +kernel

/-- Which lanes hold the position and the cosines. -/
theorem lane_low : ∀ k : Fin 128, IntOp.cmpi .sle (BitVec.ofNat 32 (k : ℕ)) 16#32 = if (k : ℕ) ≤ 16 then 1#1 else 0#1 := by decide +kernel

/-- Which lanes hold these and the sines. -/
theorem lane_high : ∀ k : Fin 128, IntOp.cmpi .sle (BitVec.ofNat 32 (k : ℕ)) 32#32 = if (k : ℕ) ≤ 32 then 1#1 else 0#1 := by decide +kernel

/-- The kernel's position of a row. -/
theorem pos_at (t : Fin cfg0.N) (r : Fin 512) : k0_pay4 (F := Ideal) (grid0.coords t) (ix2 r 0) = pos (512 * (t : ℕ) + r) := by
  unfold pos
  pointwise [k0_pay4]
  rw [(idx t).2.2.2.2.2.2.2.2.2.2]
  refine congrArg (FloatOps.sitofp FTy.f32) (BitVec.eq_of_toNat_eq ?_)
  show (BitVec.ofNat 32 t * 512#32 + BitVec.ofNat 32 r).toNat = _
  simp only [BitVec.toNat_add, BitVec.toNat_mul, BitVec.toNat_ofNat]
  omega

/-- The kernel's angle is the reference's: the full turn over the length is one number in the one, a quotient in the other. -/
theorem angle_eq (n : ℕ) (f : Ideal .f32) : (FloatOps.ofBits (F := Ideal) FTy.f32 0x3A490FDB#32 * pos n * f : Ideal .f32) = angle n f := by
  have e0 : Ideal.ofBits .f32 0x3A490FDB#32 = ((13176795 / 17179869184 : ℝ) : EReal) := by
    simp [Ideal.ofBits, Ideal.ieee, -EReal.coe_mul]; norm_num
  have e1 : Ideal.ofBits .f32 0x40C90FDB#32 = ((13176795 / 2097152 : ℝ) : EReal) := by
    simp [Ideal.ofBits, Ideal.ieee, -EReal.coe_mul]; norm_num
  have e2 : Ideal.ofBits .f32 0x46000000#32 = ((8192 : ℝ) : EReal) := by
    simp [Ideal.ofBits, Ideal.ieee, -EReal.coe_mul]; norm_num
  have hn : ((8192 : ℝ) : EReal) ≠ 0 := by exact_mod_cast (by norm_num : (8192 : ℝ) ≠ 0)
  unfold angle
  rw [mul_comm]
  show f * (Ideal.ofBits .f32 0x3A490FDB#32 * pos n) = f * Ideal.div (Ideal.ofBits .f32 0x40C90FDB#32 * pos n) (Ideal.ofBits .f32 0x46000000#32)
  rw [e0, e1, e2, Ideal.div, if_neg hn, ← EReal.coe_inv, mul_right_comm, ← EReal.coe_mul]
  norm_num

/-- The scaled position. -/
theorem time_at (t : Fin cfg0.N) (r : Fin 512) : k0_pay5 (F := Ideal) (grid0.coords t) (ix2 r 0) = time (512 * (t : ℕ) + r) := by
  unfold time
  rw [← pos_at t r]
  pointwise [k0_pay5]

/-- The kernel's embedding at an entry of the padded row. -/
def wide (t : Fin cfg0.N) (FV : FVec Ideal S1x128 .f32) (r : Fin 512) (k : Fin 128) : Ideal .f32 :=
  if (k : ℕ) = 0 then time (512 * (t : ℕ) + r)
  else if (k : ℕ) ≤ 16 then FloatOps.cos (F := Ideal) (FloatOps.ofBits (F := Ideal) FTy.f32 0x3A490FDB#32 * pos (512 * (t : ℕ) + r) * FV (ix2 0 k) : Ideal .f32)
  else if (k : ℕ) ≤ 32 then (0 - FloatOps.sin (F := Ideal) (FloatOps.ofBits (F := Ideal) FTy.f32 0x3A490FDB#32 * pos (512 * (t : ℕ) + r) * FV (ix2 0 k) : Ideal .f32) : Ideal .f32)
  else (0 : EReal)

/-- The first layer before its sine, at an entry. -/
theorem pay7_at (t : Fin cfg0.N) (FV FR : FVec Ideal S1x128 .f32) (W : FVec Ideal S128x128 .f32) (B : FVec Ideal S1x128 .f32) (r : Fin 512) (j : Fin 128) :
    k0_pay7 (F := Ideal) (grid0.coords t) FV FR W B (ix2 r j) = FR (ix2 0 j) * ((∑ k : Fin 128, wide t FV r k * W (ix2 k j) : Ideal .f32) + B (ix2 0 j)) := by
  unfold wide
  have hp := pos_at t r
  have ht := time_at t r
  unfold k0_pay7
  generalize k0_pay5 (F := Ideal) _ = T at ht ⊢
  generalize k0_pay4 (F := Ideal) _ = P at hp ⊢
  pointwise [k0_pay6]
  refine congrArg (fun z : EReal => FR (ix2 0 j) * (z + B (ix2 0 j))) (Finset.sum_congr rfl fun k _ => congrArg (fun z : EReal => z * W (ix2 k j)) ?_)
  rw [hp, ht, lane_zero, lane_low, lane_high]
  split_ifs <;> rfl

/-- The other layers at an entry. -/
theorem pay8_at (FR : FVec Ideal S1x128 .f32) (H : FVec Ideal S512x128 .f32) (W1 : FVec Ideal S1x128x128 .f32) (B1 : FVec Ideal S1x1x128 .f32)
    (W2 : FVec Ideal S1x128x128 .f32) (B2 : FVec Ideal S1x1x128 .f32) (W3 : FVec Ideal S128x2048 .f32) (r : Fin 512) (d : Fin 2048) :
    k0_pay8 (F := Ideal) FR H W1 B1 W2 B2 W3 (ix2 r d)
      = ∑ k : Fin 128, unit (FR (ix2 0 k)) (B2 (ix3 0 0 k))
          (fun j : Fin 128 => unit (FR (ix2 0 j)) (B1 (ix3 0 0 j)) (fun i : Fin 128 => FloatOps.sin (F := Ideal) (H (ix2 r i))) fun i => W1 (ix3 0 i j))
          (fun j => W2 (ix3 0 j k)) * W3 (ix2 k d) := by
  unfold unit
  pointwise [k0_pay8]
  try rfl

variable (m : (ℓ : Loc nD τ sig) → Buf (Elt Ideal) ℓ)

/-- The network's arguments, by number. -/
abbrev arg0 (c : Dev nD) : FVec Ideal S1x33x64 .f32 := m ((c : Thread nD τ).loc main_arg0)
/-- The first layer's bias. -/
abbrev arg1 (c : Dev nD) : FVec Ideal S1x64 .f32 := m ((c : Thread nD τ).loc main_arg1)
/-- The inner layers' weights. -/
abbrev arg2 (c : Dev nD) : FVec Ideal S1x2x64x64 .f32 := m ((c : Thread nD τ).loc main_arg2)
/-- The inner layers' biases. -/
abbrev arg3 (c : Dev nD) : FVec Ideal S1x2x64 .f32 := m ((c : Thread nD τ).loc main_arg3)
/-- The last layer's weights. -/
abbrev arg4 (c : Dev nD) : FVec Ideal S1x64x2048 .f32 := m ((c : Thread nD τ).loc main_arg4)
/-- The frequencies. -/
abbrev arg5 (c : Dev nD) : FVec Ideal S1x64 .f32 := m ((c : Thread nD τ).loc main_arg5)

/-- The first 33 entries of the kernel's embedding are the reference's. -/
theorem wide_at (c : Dev nD) (t : Fin cfg0.N) (r : Fin 512) (k : Fin 33) :
    wide t (iblk m c 0 t) r (Fin.castAdd 95 k) = emb (512 * (t : ℕ) + r) k := by
  unfold wide emb
  simp only [Fin.val_castAdd]
  by_cases h0 : (k : ℕ) = 0
  · rw [if_pos h0, if_pos h0]
  · rw [if_neg h0, if_neg h0]
    by_cases h1 : (k : ℕ) ≤ 16
    · rw [if_pos h1, dif_pos h1, low_at m c t (Fin.castAdd 95 k) (by rw [Fin.val_castAdd]; omega) h1]
      exact congrArg (FloatOps.cos (F := Ideal)) (angle_eq _ _)
    · rw [if_neg h1, dif_neg h1, if_pos (by omega), high_at m c t (Fin.castAdd 95 k) (by rw [Fin.val_castAdd]; omega) (by rw [Fin.val_castAdd]; omega), zero_sub]
      exact congrArg (fun a : EReal => -a) (congrArg (FloatOps.sin (F := Ideal)) (angle_eq _ _))

/-- A unit over padded weights is the unit over the weights. -/
theorem unit_pad {K L : ℕ} (f b : Ideal .f32) (z w : Fin (K + L) → Ideal .f32) (z' w' : Fin K → Ideal .f32) (hw : ∀ k : Fin L, w (Fin.natAdd K k) = (0 : EReal))
    (ez : ∀ k, z (Fin.castAdd L k) = z' k) (ew : ∀ k, w (Fin.castAdd L k) = w' k) : unit f b z w = unit f b z' w' := by
  unfold unit
  refine congrArg (fun s : EReal => FloatOps.sin (F := Ideal) (f * (s + b) : EReal)) ((sum_pad (fun k => (z k * w k : EReal)) fun k => ?_).trans
    (Finset.sum_congr rfl fun k _ => congrArg₂ (fun a b : EReal => a * b) (ez k) (ew k)))
  exact (congrArg (fun a : EReal => z (Fin.natAdd K k) * a) (hw k)).trans (mul_zero _)

/-- The kernel's first layer before its sine. -/
abbrev first (c : Dev nD) (t : Fin cfg0.N) : FVec Ideal S512x128 .f32 :=
  k0_pay7 (F := Ideal) (grid0.coords t) (iblk m c 0 t) (iblk m c 6 t) (iblk m c 1 t) (iblk m c 2 t)

/-- Its sine is the reference's first layer. -/
theorem first_at (c : Dev nD) (t : Fin cfg0.N) (r : Fin 512) (j : Fin 64) :
    FloatOps.sin (F := Ideal) (first m c t (ix2 r (Fin.castAdd 64 j))) = hid0 (arg0 m c) (arg1 m c) (arg5 m c) (512 * (t : ℕ) + r) j := by
  refine (congrArg (FloatOps.sin (F := Ideal)) (pay7_at t _ _ _ _ r _)).trans ?_
  rw [freq_at m c t _ j.isLt, b0_at m c t _ j.isLt]
  exact unit_pad (K := 33) (L := 95) _ _ _ _ _ _ (fun k => w0_pad m c t _ _ (Nat.le_add_right 33 k)) (fun k => wide_at m c t r k)
    fun k => w0_at m c t (Fin.castAdd 95 k) (Fin.castAdd 64 j) k.isLt j.isLt

/-- One inner layer's weights. -/
abbrev weights (c : Dev nD) (t : Fin cfg0.N) (i : ℕ) (h : ∀ a, ![i, 0, 0] a + S1x128x128.size a ≤ S2x128x128.size a) : FVec Ideal S1x128x128 .f32 :=
  View.ld (Val := Elt Ideal) (e' := .f32) (iblk m c 3 t) (Rect.unit (s := S2x128x128) ![i, 0, 0] S1x128x128.size h)

/-- One inner layer's biases. -/
abbrev biases (c : Dev nD) (t : Fin cfg0.N) (i : ℕ) (h : ∀ a, ![i, 0, 0] a + S1x1x128.size a ≤ S2x1x128.size a) : FVec Ideal S1x1x128 .f32 :=
  View.ld (Val := Elt Ideal) (e' := .f32) (iblk m c 4 t) (Rect.unit (s := S2x1x128) ![i, 0, 0] S1x1x128.size h)

/-- One entry of a layer's weights. -/
theorem weights_ld (c : Dev nD) (t : Fin cfg0.N) (i : Fin 2) (h) (k j : Fin 128) : weights m c t i h (ix3 0 k j) = iblk m c 3 t (ix3 i k j) := by
  refine congrArg (iblk m c 3 t) ?_
  funext a
  apply Fin.ext
  fin_cases a
  · show (i : ℕ) + 1 * 0 = i
    omega
  · show 0 + 1 * (k : ℕ) = k
    omega
  · show 0 + 1 * (j : ℕ) = j
    omega

/-- One entry of a layer's biases. -/
theorem biases_ld (c : Dev nD) (t : Fin cfg0.N) (i : Fin 2) (h) (j : Fin 128) : biases m c t i h (ix3 0 0 j) = iblk m c 4 t (ix3 i 0 j) := by
  refine congrArg (iblk m c 4 t) ?_
  funext a
  apply Fin.ext
  fin_cases a
  · show (i : ℕ) + 1 * 0 = i
    omega
  · rfl
  · show 0 + 1 * (j : ℕ) = j
    omega

/-- An inner layer over the padded weights is the reference's. -/
theorem inner_at (c : Dev nD) (t : Fin cfg0.N) (i : Fin 2) (h h') (z : Fin 128 → Ideal .f32) (z' : Fin 64 → Ideal .f32) (ez : ∀ k : Fin 64, z (Fin.castAdd 64 k) = z' k) (j : Fin 64) :
    unit (iblk m c 6 t (ix2 0 (Fin.castAdd 64 j))) (biases m c t i h' (ix3 0 0 (Fin.castAdd 64 j))) z (fun k => weights m c t i h (ix3 0 k (Fin.castAdd 64 j)))
      = hidNext i z' (arg2 m c) (arg3 m c) (arg5 m c) j := by
  rw [biases_ld, freq_at m c t _ j.isLt, bin_at m c t i _ j.isLt]
  refine unit_pad (K := 64) (L := 64) _ _ _ _ _ _ (fun k => ?_) ez fun k => ?_
  · exact (weights_ld m c t i h _ _).trans (win_pad m c t i _ _ (Nat.le_add_right 64 k))
  · exact (weights_ld m c t i h _ _).trans (win_at m c t i (Fin.castAdd 64 k) (Fin.castAdd 64 j) k.isLt j.isLt)

/-- A product with padded weights is the product with the weights. -/
theorem sum_prod_pad {K L : ℕ} (z w : Fin (K + L) → Ideal .f32) (z' w' : Fin K → Ideal .f32) (hw : ∀ k : Fin L, w (Fin.natAdd K k) = (0 : EReal))
    (ez : ∀ k, z (Fin.castAdd L k) = z' k) (ew : ∀ k, w (Fin.castAdd L k) = w' k) : (∑ k, (z k * w k : EReal)) = ∑ k, (z' k * w' k : EReal) :=
  (sum_pad (fun k => (z k * w k : EReal)) fun k => (congrArg (fun a : EReal => z (Fin.natAdd K k) * a) (hw k)).trans (mul_zero _)).trans
    (Finset.sum_congr rfl fun k _ => congrArg₂ (fun a b : EReal => a * b) (ez k) (ew k))

/-- What the kernel's network gives at a point. -/
abbrev out (c : Dev nD) (t : Fin cfg0.N) : FVec Ideal S512x2048 .f32 :=
  k0_pay8 (F := Ideal) (k0_pay6 (F := Ideal) (iblk m c 6 t)) (first m c t) (weights m c t 0 inb_S2x128x128_S1x128x128_0_0_0) (biases m c t 0 inb_S2x1x128_S1x1x128_0_0_0)
    (weights m c t 1 inb_S2x128x128_S1x128x128_1_0_0) (biases m c t 1 inb_S2x1x128_S1x1x128_1_0_0) (iblk m c 5 t)

/-- The frequencies are taken as they are held. -/
theorem pay6_eq (X : FVec Ideal S1x128 .f32) : k0_pay6 (F := Ideal) X = X := by
  funext y
  pointwise [k0_pay6]

/-- The second hidden layer. -/
abbrev second (c : Dev nD) (t : Fin cfg0.N) (r : Fin 512) (j : Fin 128) : Ideal .f32 :=
  unit (iblk m c 6 t (ix2 0 j)) (biases m c t 0 inb_S2x1x128_S1x1x128_0_0_0 (ix3 0 0 j)) (fun i : Fin 128 => FloatOps.sin (F := Ideal) (first m c t (ix2 r i)))
    fun i => weights m c t 0 inb_S2x128x128_S1x128x128_0_0_0 (ix3 0 i j)

/-- The third hidden layer. -/
abbrev third (c : Dev nD) (t : Fin cfg0.N) (r : Fin 512) (k : Fin 128) : Ideal .f32 :=
  unit (iblk m c 6 t (ix2 0 k)) (biases m c t 1 inb_S2x1x128_S1x1x128_1_0_0 (ix3 0 0 k)) (second m c t r)
    fun j => weights m c t 1 inb_S2x128x128_S1x128x128_1_0_0 (ix3 0 j k)

/-- The second hidden layer is the reference's. -/
theorem second_at (c : Dev nD) (t : Fin cfg0.N) (r : Fin 512) (j : Fin 64) : second m c t r (Fin.castAdd 64 j)
    = hidNext 0 (hid0 (arg0 m c) (arg1 m c) (arg5 m c) (512 * (t : ℕ) + r)) (arg2 m c) (arg3 m c) (arg5 m c) j :=
  inner_at m c t 0 _ _ _ _ (first_at m c t r) j

/-- The third hidden layer is the reference's. -/
theorem third_at (c : Dev nD) (t : Fin cfg0.N) (r : Fin 512) (k : Fin 64) : third m c t r (Fin.castAdd 64 k)
    = hidNext 1 (hidNext 0 (hid0 (arg0 m c) (arg1 m c) (arg5 m c) (512 * (t : ℕ) + r)) (arg2 m c) (arg3 m c) (arg5 m c)) (arg2 m c) (arg3 m c) (arg5 m c) k :=
  inner_at m c t 1 _ _ _ _ (second_at m c t r) k

/-- It is the reference's network at the block's positions. -/
theorem out_at (c : Dev nD) (t : Fin cfg0.N) (r : Fin 512) (d : Fin 2048) :
    out m c t (ix2 r d) = net (arg0 m c) (arg1 m c) (arg2 m c) (arg3 m c) (arg4 m c) (arg5 m c) (512 * (t : ℕ) + r) d := by
  refine (pay8_at _ _ _ _ _ _ _ r d).trans ?_
  rw [pay6_eq]
  exact sum_prod_pad (K := 64) (L := 64) (third m c t r) (fun k => iblk m c 5 t (ix2 k d)) _ _ (fun k => wout_pad m c t _ d (Nat.le_add_right 64 k)) (third_at m c t r)
    fun k => wout_at m c t (Fin.castAdd 64 k) d k.isLt

end Cert.FilterIdeal.Value

end
-- ==== Proof.Filter.lean ====
/- The network of the Hyena operator's filter: the kernel's result arrays are the reference's. -/
module

public import proofs.«01_k».proof.Proof.FilterNet

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen
open Cert.FilterRefIdeal.Value (BANDS RATES NET NET_at FWD FWD_at BWD BWD_at REFt pos time net decay)

variable (m : (ℓ : Loc nD τ sig) → Buf (Elt Ideal) ℓ)

/-- The row of the whole sequence that a row of the block is. -/
abbrev row (t : Fin cfg0.N) (r : Fin 512) : Fin 8192 := ⟨512 * (t : ℕ) + r, by have := t.isLt; change (t : ℕ) < 16 at this; omega⟩

/-- The kernel's decay. -/
theorem decay_at (c : Dev nD) (t : Fin cfg0.N) (r : Fin 512) (d : Fin 1024) :
    k0_pay9 (F := Ideal) (k0_pay5 (F := Ideal) (grid0.coords t)) (iblk m c 7 t) (ix2 r d) = decay (row t r) d := by
  unfold decay
  have ht := time_at t r
  have hr := rates_at m c t d
  generalize k0_pay5 (F := Ideal) _ = T at ht ⊢
  generalize iblk m c 7 t = R at hr ⊢
  pointwise [k0_pay9, ht, hr]
  rw [zero_sub]

/-- The forward filter's rows of the block. -/
abbrev fwd (c : Dev nD) (t : Fin cfg0.N) : FVec Ideal S512x1024 .f32 :=
  k0_pay10 (F := Ideal) (k0_pay5 (F := Ideal) (grid0.coords t)) (k0_pay6 (F := Ideal) (iblk m c 6 t)) (first m c t)
    (weights m c t 0 inb_S2x128x128_S1x128x128_0_0_0) (biases m c t 0 inb_S2x1x128_S1x1x128_0_0_0)
    (weights m c t 1 inb_S2x128x128_S1x128x128_1_0_0) (biases m c t 1 inb_S2x1x128_S1x1x128_1_0_0) (iblk m c 5 t) (iblk m c 7 t)

/-- The backward filter's. -/
abbrev bwd (c : Dev nD) (t : Fin cfg0.N) : FVec Ideal S512x1024 .f32 :=
  k0_pay13 (F := Ideal) (k0_pay11 (F := Ideal) (k0_pay4 (F := Ideal) (grid0.coords t)))
    (k0_pay12 (F := Ideal) (k0_pay5 (F := Ideal) (grid0.coords t)) (k0_pay6 (F := Ideal) (iblk m c 6 t)) (first m c t)
      (weights m c t 0 inb_S2x128x128_S1x128x128_0_0_0) (biases m c t 0 inb_S2x1x128_S1x1x128_0_0_0)
      (weights m c t 1 inb_S2x128x128_S1x128x128_1_0_0) (biases m c t 1 inb_S2x1x128_S1x1x128_1_0_0) (iblk m c 5 t) (iblk m c 7 t))

/-- The reference's network of the call's arguments. -/
abbrev refNet (c : Dev nD) : FVec Ideal Cert.FilterRefIdeal.S8192x2048 .f32 := NET (arg0 m c) (arg1 m c) (arg2 m c) (arg3 m c) (arg4 m c) (arg5 m c)

/-- The forward filter is the reference's at the block's rows. -/
theorem fwd_at (c : Dev nD) (t : Fin cfg0.N) (r : Fin 512) (d : Fin 1024) : fwd m c t (ix2 r d) = FWD (refNet m c) (ix2 (row t r) d) := by
  rw [FWD_at, refNet, NET_at, ← decay_at m c t r d]
  refine Eq.trans ?_ (congrArg (fun z : EReal => z * k0_pay9 (F := Ideal) _ _ (ix2 r d)) (out_at m c t r ⟨d, by omega⟩))
  unfold fwd k0_pay10 out
  generalize k0_pay8 (F := Ideal) _ _ _ _ _ _ _ = N
  generalize k0_pay9 (F := Ideal) _ _ = D
  pointwise []

/-- A position is after the first just where it is positive. -/
theorem pos_pos (n : ℕ) (hn : n < 8192) : (0 : EReal) < pos n ↔ n ≠ 0 := by
  have e : pos n = (((BitVec.ofNat 32 n).toInt : ℝ) : EReal) := rfl
  rw [e, EReal.coe_pos, Int.cast_pos, BitVec.toInt_eq_toNat_of_lt (by rw [BitVec.toNat_ofNat]; omega), BitVec.toNat_ofNat]
  omega

/-- The backward filter is the reference's at the block's rows. -/
theorem bwd_at (c : Dev nD) (t : Fin cfg0.N) (r : Fin 512) (d : Fin 1024) : bwd m c t (ix2 r d) = BWD (refNet m c) (ix2 (row t r) d) := by
  rw [BWD_at, refNet, NET_at, ← decay_at m c t r d]
  have hp := pos_at t r
  have ho := out_at m c t r ⟨1024 + d, by omega⟩
  unfold bwd k0_pay12
  unfold out at ho
  generalize k0_pay8 (F := Ideal) _ _ _ _ _ _ _ = N at ho ⊢
  generalize k0_pay9 (F := Ideal) _ _ = D
  generalize k0_pay4 (F := Ideal) _ = P at hp ⊢
  rw [← ho]
  pointwise [k0_pay13, k0_pay11, hp]
  have hn := pos_pos (512 * (t : ℕ) + r) (row t r).isLt
  by_cases h0 : 512 * (t : ℕ) + r = 0
  · rw [if_pos h0, if_neg fun h => hn.1 h h0]
  · rw [if_neg h0, if_pos (hn.2 h0)]

/-- The sums the kernel stores, at an entry. -/
theorem sums_at (P Q : FVec Ideal S512x1024 .f32) (e : Fin 8) (d : Fin 1024) : k0_pay3 (F := Ideal) P Q (ix3 0 e d)
    = ∑ r : Fin 512, (FloatOps.absf (F := Ideal) (P (ix2 r d)) + FloatOps.absf (F := Ideal) (Q (ix2 r d)) : EReal) := by
  pointwise [k0_pay3]

/-- The origin of a matrix. -/
theorem origin : (![0, 0] : Fin 2 → ℕ) = fun _ => 0 := by
  funext a
  fin_cases a <;> rfl

/-- A load of all of an array is the array. -/
theorem all_0 (X : FVec Ideal S1x128 .f32) : View.ld (Val := Elt Ideal) (e' := .f32) X r0_0 = X := View.ld_unit_zero (Val := Elt Ideal) (e := .f32) (S := S1x128) origin _ X

/-- A load of all of an array is the array. -/
theorem all_1 (X : FVec Ideal S128x128 .f32) : View.ld (Val := Elt Ideal) (e' := .f32) X r0_1 = X := View.ld_unit_zero (Val := Elt Ideal) (e := .f32) (S := S128x128) origin _ X

/-- A load of all of an array is the array. -/
theorem all_6 (X : FVec Ideal S128x2048 .f32) : View.ld (Val := Elt Ideal) (e' := .f32) X r0_6 = X := View.ld_unit_zero (Val := Elt Ideal) (e := .f32) (S := S128x2048) origin _ X

/-- A load of all of an array is the array. -/
theorem all_7 (X : FVec Ideal S1x1024 .f32) : View.ld (Val := Elt Ideal) (e' := .f32) X r0_7 = X := View.ld_unit_zero (Val := Elt Ideal) (e := .f32) (S := S1x1024) origin _ X

/-- The forward filter, the whole arrays it reads by their names. -/
theorem fwd_reads (i : grid0.Coords) (x0 : FVec Ideal S1x128 .f32) (x1 : FVec Ideal S128x128 .f32) (x2 : FVec Ideal S1x128 .f32) (x3 : FVec Ideal S2x128x128 .f32) (x4 : FVec Ideal S2x1x128 .f32)
    (x5 : FVec Ideal S128x2048 .f32) (x6 : FVec Ideal S1x128 .f32) (x7 : FVec Ideal S1x1024 .f32) :
    k0_pay162 (F := Ideal) i x0 x1 x2 x3 x4 x5 x6 x7 = k0_pay10 (F := Ideal) (k0_pay5 (F := Ideal) i) (k0_pay6 (F := Ideal) x6) (k0_pay7 (F := Ideal) i x0 x6 x1 x2) (View.ld x3 r0_2) (View.ld x4 r0_3) (View.ld x3 r0_4) (View.ld x4 r0_5) x5 x7 := by
  unfold k0_pay162 k0_pay161 k0_pay160 k0_pay159
  rw [all_0, all_0, all_0, all_1, all_6, all_7]

/-- The backward filter likewise. -/
theorem bwd_reads (i : grid0.Coords) (x0 : FVec Ideal S1x128 .f32) (x1 : FVec Ideal S128x128 .f32) (x2 : FVec Ideal S1x128 .f32) (x3 : FVec Ideal S2x128x128 .f32) (x4 : FVec Ideal S2x1x128 .f32)
    (x5 : FVec Ideal S128x2048 .f32) (x6 : FVec Ideal S1x128 .f32) (x7 : FVec Ideal S1x1024 .f32) :
    k0_pay163 (F := Ideal) i x0 x1 x2 x3 x4 x5 x6 x7 = k0_pay13 (F := Ideal) (k0_pay11 (F := Ideal) (k0_pay4 (F := Ideal) i))
      (k0_pay12 (F := Ideal) (k0_pay5 (F := Ideal) i) (k0_pay6 (F := Ideal) x6) (k0_pay7 (F := Ideal) i x0 x6 x1 x2) (View.ld x3 r0_2) (View.ld x4 r0_3) (View.ld x3 r0_4) (View.ld x4 r0_5) x5 x7) := by
  unfold k0_pay163 k0_pay161 k0_pay160 k0_pay159
  rw [all_0, all_0, all_0, all_1, all_6, all_7]

/-- The forward filter as the kernel stores it. -/
theorem stored_fwd (c : Dev nD) (t : Fin cfg0.N) : k0_pay162 (F := Ideal) (grid0.coords t) (iblk m c 0 t) (iblk m c 1 t) (iblk m c 2 t) (iblk m c 3 t) (iblk m c 4 t) (iblk m c 5 t) (iblk m c 6 t) (iblk m c 7 t) = fwd m c t :=
  fwd_reads _ _ _ _ _ _ _ _ _

/-- The backward filter as the kernel stores it. -/
theorem stored_bwd (c : Dev nD) (t : Fin cfg0.N) : k0_pay163 (F := Ideal) (grid0.coords t) (iblk m c 0 t) (iblk m c 1 t) (iblk m c 2 t) (iblk m c 3 t) (iblk m c 4 t) (iblk m c 5 t) (iblk m c 6 t) (iblk m c 7 t) = bwd m c t :=
  bwd_reads _ _ _ _ _ _ _ _ _

/-- The sums of two filters' absolute values over each block of 512 rows, each sum eight times. -/
def blockSums (P Q : FVec Ideal Cert.FilterRefIdeal.S8192x1024 .f32) : FVec Ideal S16x8x1024 .f32 := fun i =>
  (∑ r : Fin 512, (FloatOps.absf (F := Ideal) (P (ix2 ⟨(i 0 : ℕ) * 512 + r, by have : (i 0 : ℕ) < 16 := (i 0).isLt; omega⟩ (i 2)))
    + FloatOps.absf (F := Ideal) (Q (ix2 ⟨(i 0 : ℕ) * 512 + r, by have : (i 0 : ℕ) < 16 := (i 0).isLt; omega⟩ (i 2))) : Ideal .f32) : Ideal .f32)

/-- One of the block sums. -/
theorem blockSums_at (P Q : FVec Ideal Cert.FilterRefIdeal.S8192x1024 .f32) (b : Fin 16) (e : Fin 8) (d : Fin 1024) : blockSums P Q (ix3 b e d)
    = (∑ r : Fin 512, (FloatOps.absf (F := Ideal) (P (ix2 ⟨(b : ℕ) * 512 + r, by omega⟩ d)) + FloatOps.absf (F := Ideal) (Q (ix2 ⟨(b : ℕ) * 512 + r, by omega⟩ d)) : Ideal .f32) : Ideal .f32) := rfl

set_option maxHeartbeats 400000 in
/-- The call's second result: the block sums. -/
theorem final_sums (c : Dev nD) : (dats m 0 c).arrAt 9 cfg0.N = blockSums (FWD (refNet m c)) (BWD (refNet m c)) := by
  refine (dats m 0 c).arrAt_eq_of_covers 9 _ (by decide +kernel) fun t _ y => ?_
  blk_simp
  rw [after0_9]
  frame_out
  rw [stored_fwd, stored_bwd]
  have hf := fwd_at m c t
  have hb := bwd_at m c t
  generalize fwd m c t = P at hf ⊢
  generalize bwd m c t = Q at hb ⊢
  generalize FWD (refNet m c) = P' at hf ⊢
  generalize BWD (refNet m c) = Q' at hb ⊢
  obtain ⟨e, d, rfl⟩ : ∃ (e : Fin 8) (d : Fin 1024), y = ix3 0 e d := ⟨y 1, y 2, by rw [eq_ix3 y]; congr 1; exact Subsingleton.elim (α := Fin 1) _ _⟩
  refine (sums_at P Q e d).trans (Eq.trans ?_ ((blockSums_at P' Q' ⟨t, t.isLt⟩ e d).symm.trans ?_))
  · refine Finset.sum_congr rfl fun r _ => ?_
    rw [hf, hb]
    have er : row t r = ⟨(t : ℕ) * 512 + r, by have := (row t r).isLt; dsimp only at this; omega⟩ := Fin.ext (by dsimp only; omega)
    rw [er]
  · blk_point [idx t]

end Cert.FilterIdeal.Value

end
-- ==== Proof.FilterTiles.lean ====
/- The network of the Hyena operator's filter: the 128 tiles the kernel stores of its two filters are the reference's rearrangement. -/
module

public import proofs.«01_k».proof.Proof.Filter

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen
open Cert.FilterRefIdeal.Value (FWD BWD REFt)

variable (m : (ℓ : Loc nD τ sig) → Buf (Elt Ideal) ℓ)

/-- Two arrays of 512 rows as one of two. -/
def both (P Q : FVec Ideal S512x1024 .f32) (p : Fin 2) : FVec Ideal S512x1024 .f32 := if (p : ℕ) = 0 then P else Q

set_option maxHeartbeats 16000000 in
/-- What the kernel stores of its filters: their rows taken eight by eight from blocks of 128. -/
theorem tiles_at (i : grid0.Coords) (x0 : FVec Ideal S1x128 .f32) (x1 : FVec Ideal S128x128 .f32) (x2 : FVec Ideal S1x128 .f32) (x3 : FVec Ideal S2x128x128 .f32)
    (x4 : FVec Ideal S2x1x128 .f32) (x5 : FVec Ideal S128x2048 .f32) (x6 : FVec Ideal S1x128 .f32) (x7 : FVec Ideal S1x1024 .f32) (y : S2x16x32x1024.Idx) (j : S512x1024.Idx)
    (hj0 : (j 0 : ℕ) = (y 2 : ℕ) / 8 * 128 + (y 1 : ℕ) * 8 + (y 2 : ℕ) % 8) (hj1 : (j 1 : ℕ) = (y 3 : ℕ)) :
    out0_8 (F := Ideal) i x0 x1 x2 x3 x4 x5 x6 x7 y
      = both (k0_pay162 (F := Ideal) i x0 x1 x2 x3 x4 x5 x6 x7) (k0_pay163 (F := Ideal) i x0 x1 x2 x3 x4 x5 x6 x7) (y 0) j := by
  unfold out0_8
  generalize k0_pay162 (F := Ideal) i x0 x1 x2 x3 x4 x5 x6 x7 = P
  generalize k0_pay163 (F := Ideal) i x0 x1 x2 x3 x4 x5 x6 x7 = Q
  unfold both
  canon_tiles x h
  all_goals
    open_payloads
    pointwise
    first
      | rw [if_neg (by omega)]
      | rw [if_pos (by omega)]
    blk_ext

end Cert.FilterIdeal.Value

end
-- ==== Proof.FilterTaps.lean ====
/- The network of the Hyena operator's filter: the filters the kernel stores are the reference's, their rows rearranged. -/
module

public import proofs.«01_k».proof.Proof.FilterTiles

@[expose] public section

set_option maxRecDepth 16384

noncomputable section

open Idealize.ShloMosaic Idealize.ShloMosaic.TcCoe Idealize.SL.Sem
open Idealize.ShloMosaic.Pipeline (Dat)

namespace Cert.FilterRefIdeal.Value

open Cert.FilterRefIdeal Cert.FilterRefIdeal.Gen

/-- Two filters stacked, at an index. -/
theorem stack_at (P Q : FVec Ideal S8192x1024 .f32) (p : Fin 2) (r : Fin 8192) (d : Fin 1024) :
    STACK P Q (ix3 p r d)
    = (if (p : ℕ) = 0 then P else Q) (ix2 r d) := by
  by_cases hp : (p : ℕ) = 0
  · rw [if_pos hp]
    pointwise [STACK]
    rw [dif_pos (by omega)]
  · rw [if_neg hp]
    pointwise [STACK]
    rw [dif_neg (by omega)]

/-- Rows split into blocks, groups and places. -/
theorem split_at (X : FVec Ideal S2x8192x1024 .f32) (p : Fin 2) (a : Fin 64) (g : Fin 16) (e : Fin 8) (d : Fin 1024) (r : Fin 8192) (hr : (r : ℕ) = (a : ℕ) * 128 + (g : ℕ) * 8 + (e : ℕ)) :
    shapeCast S2x64x16x8x1024 X shapeCasts_S2x8192x1024_S2x64x16x8x1024 (ix5 p a g e d) = X (ix3 p r d) := by
  pointwise
  exact congrArg (fun k => X (ix3 p k d)) (Fin.ext (by dsimp only; omega))

/-- Groups before blocks. -/
theorem swap_at (X : FVec Ideal S2x64x16x8x1024 .f32) (p : Fin 2) (g : Fin 16) (d : Fin 1024) (a : Fin 64) (e : Fin 8) :
    transpose S2x16x64x8x1024 [0, 2, 1, 3, 4] X transposes_S2x64x16x8x1024_S2x16x64x8x1024_0_2_1_3_4 (ix5 p g a e d) = X (ix5 p a g e d) := by
  pointwise

/-- Blocks and places joined. -/
theorem join_at (X : FVec Ideal S2x16x64x8x1024 .f32) (p : Fin 2) (g : Fin 16) (s : Fin 512) (d : Fin 1024) (a : Fin 64) (e : Fin 8) (ha : (a : ℕ) = (s : ℕ) / 8) (he : (e : ℕ) = (s : ℕ) % 8) :
    shapeCast S2x16x512x1024 X shapeCasts_S2x16x64x8x1024_S2x16x512x1024 (ix4 p g s d) = X (ix5 p g a e d) := by
  pointwise
  exact congrArg₂ (fun k l => X (ix5 p g k l d)) (Fin.ext ha.symm) (Fin.ext he.symm)

/-- The reference's rearrangement of two filters, at an index. -/
theorem REFt_at (P Q : FVec Ideal S8192x1024 .f32) (p : Fin 2) (g : Fin 16) (s : Fin 512) (d : Fin 1024) (r : Fin 8192)
    (hr : (r : ℕ) = (s : ℕ) / 8 * 128 + (g : ℕ) * 8 + (s : ℕ) % 8) :
    REFt P Q (ix4 p g s d) = (if (p : ℕ) = 0 then P else Q) (ix2 r d) := by
  unfold REFt
  rw [join_at _ p g s d ⟨(s : ℕ) / 8, by omega⟩ ⟨(s : ℕ) % 8, by omega⟩ rfl rfl, swap_at, split_at _ p ⟨(s : ℕ) / 8, by omega⟩ g ⟨(s : ℕ) % 8, by omega⟩ d r hr, stack_at]

end Cert.FilterRefIdeal.Value

namespace Cert.FilterIdeal.Value

open Cert.FilterIdeal Cert.FilterIdeal.Gen
open Cert.FilterRefIdeal.Value (FWD BWD REFt REFt_at)

variable (m : (ℓ : Loc nD τ sig) → Buf (Elt Ideal) ℓ)

set_option maxHeartbeats 1000000 in
/-- The call's first result is the reference's: its two filters, their rows rearranged. -/
theorem final_taps (c : Dev nD) : (dats m 0 c).arrAt 8 cfg0.N = REFt (FWD (refNet m c)) (BWD (refNet m c)) := by
  refine (dats m 0 c).arrAt_eq_of_covers 8 _ (by decide +kernel) fun t _ y => ?_
  blk_simp
  rw [after0_8]
  obtain ⟨p, g, s, d, rfl⟩ : ∃ (p : Fin 2) (g : Fin 16) (s : Fin 32) (d : Fin 1024), y = ix4 p g s d := ⟨y 0, y 1, y 2, y 3, eq_ix4 y⟩
  have ht : (t : ℕ) < 16 := t.isLt
  refine (tiles_at _ _ _ _ _ _ _ _ _ (ix4 p g s d) (ix2 ⟨(s : ℕ) / 8 * 128 + (g : ℕ) * 8 + (s : ℕ) % 8, by omega⟩ d) rfl rfl).trans ?_
  rw [stored_fwd, stored_bwd]
  have hf := fwd_at m c t
  have hb := bwd_at m c t
  generalize fwd m c t = P at hf ⊢
  generalize bwd m c t = Q at hb ⊢
  generalize FWD (refNet m c) = P' at hf ⊢
  generalize BWD (refNet m c) = Q' at hb ⊢
  refine Eq.trans ?_ ((REFt_at P' Q' p g ⟨(t : ℕ) * 32 + s, by omega⟩ d (row t ⟨(s : ℕ) / 8 * 128 + (g : ℕ) * 8 + (s : ℕ) % 8, by omega⟩) ?_).symm.trans ?_)
  · change (if (p : ℕ) = 0 then P else Q) _ = _
    by_cases hp : (p : ℕ) = 0
    · rw [if_pos hp, if_pos hp]
      exact hf _ d
    · rw [if_neg hp, if_neg hp]
      exact hb _ d
  · dsimp only [row]
    omega
  · blk_point [idx t]

end Cert.FilterIdeal.Value

end
-- ==== Proof.FilterRun.lean ====
/- The network of the Hyena operator's filter: the kernel's second result, after the host's lines, is the reference's. -/
module

public import proofs.«01_k».proof.Proof.FilterTaps

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen
open Cert.FilterRefIdeal.Value (FWD BWD REFt REFs REFs_at)

variable (m : (ℓ : Loc nD τ sig) → Buf (Elt Ideal) ℓ) (ρ : Dev nD → PrngReg)

/-- The host's lines after the call: one over the sum of the block sums, scaled by twice the filters' length. -/
def total (S : FVec Ideal S16x8x1024 .f32) : FVec Ideal S1024 .f32 :=
  Host.divf (broadcastInDim S1024 ![] bcast_S_S1024 (constant S_ .f32 0x3F800000#32))
    (mulf (Host.reduceAdd (shapeCast S16x1024 (extractStridedSlice S16x1x1024 ![0, 0, 0] S slices_S16x8x1024_S16x1x1024_0_0_0) shapeCasts_S16x1x1024_S16x1024)
        (constant S_ .f32 0x00000000#32) reducesTo_S16x1024_S1024_d0 h_S_)
      (broadcastInDim S1024 ![] bcast_S_S1024 (constant S_ .f32 0x46800000#32)))

/-- The sixteen block sums added are the sum over all rows. -/
theorem total_at (P Q : FVec Ideal Cert.FilterRefIdeal.S8192x1024 .f32) (d : Fin 1024) : total (blockSums P Q) (ix1 d) = REFs P Q (ix1 d) := by
  rw [REFs_at]
  have hs := blockSums_at P Q
  unfold total
  generalize blockSums P Q = S at hs ⊢
  pointwise [hs]
  refine congrArg (fun z : EReal => Ideal.div 1 (z * Ideal.ofBits .f32 0x46800000#32)) ?_
  exact Fin.sum_mul_add_congr fun s k hl => rfl

/-- So the host's lines give the reference's second result. -/
theorem total_eq (P Q : FVec Ideal Cert.FilterRefIdeal.S8192x1024 .f32) : total (blockSums P Q) = REFs P Q := by
  funext i
  idx_vars i
  exact total_at P Q i0

set_option maxHeartbeats 1000000 in
/-- The second result after the host's lines. -/
theorem after_call (c : Dev nD) : Pipeline.afterTail₀ cfgs (dats m) 0 (V0 m) [hostOps1] c main_v50 = total ((dats m 0 c).arrAt 9 cfg0.N) := by
  unfold Pipeline.afterTail₀
  simp only [hostOps1, List.flatten_cons, List.flatten_nil, List.append_nil]
  after_results
  exact congrArg total (Pipeline.withArrays_arr spec0 (by decide) c _ _ 9)

/-- The first result: the two filters, rearranged. -/
@[irreducible] def taps (c : Dev nD) : FVec Ideal S2x16x512x1024 .f32 := REFt (FWD (refNet m c)) (BWD (refNet m c))

/-- The second: their scale. -/
@[irreducible] def scale (c : Dev nD) : FVec Ideal S1024 .f32 := REFs (FWD (refNet m c)) (BWD (refNet m c))

/-- The first result by its definition. -/
theorem taps_eq (c : Dev nD) : taps m c = REFt (FWD (refNet m c)) (BWD (refNet m c)) := by unfold taps; rfl

/-- The second by its definition. -/
theorem scale_eq (c : Dev nD) : scale m c = REFs (FWD (refNet m c)) (BWD (refNet m c)) := by unfold scale; rfl

/-- The kernel's run: both results are the reference's, of the arguments, which stay as they were. -/
theorem run : θ_run defs (onTc (τ := τ) (main (F := Ideal))) ⟨m, fun _ => 0, ρ⟩ fun r => ∀ c : Dev nD,
    r.2.mem ((c : Thread nD τ).loc main_v43_0) = taps m c
    ∧ r.2.mem ((c : Thread nD τ).loc main_v50) = scale m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c =>
    have rest (b : Ref sig .tc) (hb : b ∈ Pipeline.restRefs sig spec0) := (h c).2 b hb
    ⟨((h c).1 8).trans ((final_taps m c).trans (taps_eq m c).symm),
      (rest main_v50 (Pipeline.mem_restRefs_of _ (by decide) (by decide))).trans
        ((after_call m c).trans ((congrArg total (final_sums m c)).trans ((total_eq _ _).trans (scale_eq m c).symm))),
      (rest main_arg0 (Pipeline.mem_restRefs_of _ (by decide) (by decide))).trans (W_main_arg0 m (dats m) c),
      (rest main_arg1 (Pipeline.mem_restRefs_of _ (by decide) (by decide))).trans (W_main_arg1 m (dats m) c),
      (rest main_arg2 (Pipeline.mem_restRefs_of _ (by decide) (by decide))).trans (W_main_arg2 m (dats m) c),
      (rest main_arg3 (Pipeline.mem_restRefs_of _ (by decide) (by decide))).trans (W_main_arg3 m (dats m) c),
      (rest main_arg4 (Pipeline.mem_restRefs_of _ (by decide) (by decide))).trans (W_main_arg4 m (dats m) c),
      (rest main_arg5 (Pipeline.mem_restRefs_of _ (by decide) (by decide))).trans (W_main_arg5 m (dats m) c)⟩)
    (run_main m ρ)

end Cert.FilterIdeal.Value

end
-- ==== Proof.FilterClaim.lean ====
/- The claims about the network of the Hyena operator's filter: the reference runs, and the kernel's results are the reference's. -/
module

public import proofs.«01_k».proof.Defs
public import proofs.«01_k».proof.Proof.FilterRun
public import proofs.«01_k».proof.Proof.Gen.FilterRefIdeal.Run
public import Idealize.ShloMosaic.Lib.Claim

@[expose] public section

set_option maxRecDepth 100000

noncomputable section

open Idealize.ShloMosaic Idealize.ShloMosaic.TcCoe Idealize.SL.Sem

open Cert.FilterRefIdeal.Value (FWD BWD NET REFt REFs res_out0 res_out1)

namespace Cert.Proof

/-- The reference of the filter's network terminates and leaves its arguments as they were. -/
theorem filter_reference_frame : Cert.quiescent_FilterRefIdeal := by
  intro m g _
  exact (θ_run Cert.FilterRefIdeal.defs _ _).mono
    (fun r h => ⟨fun c => (h c).2.2, Idealize.ShloMosaic.sem_eq_zero_of_no_sems (by decide) r.2⟩)
    (Cert.FilterRefIdeal.Value.run m g)

/-- The network's output, from the reference's arguments in memory. -/
abbrev filter_net (m : (ℓ : Loc Cert.FilterRefIdeal.nD Cert.FilterRefIdeal.τ Cert.FilterRefIdeal.sig) → Buf (Elt Ideal) ℓ) (c : Dev Cert.FilterRefIdeal.nD) :=
  NET
      (m ((c : Thread Cert.FilterRefIdeal.nD Cert.FilterRefIdeal.τ).loc Cert.FilterRefIdeal.main_arg0))
      (m ((c : Thread Cert.FilterRefIdeal.nD Cert.FilterRefIdeal.τ).loc Cert.FilterRefIdeal.main_arg1))
      (m ((c : Thread Cert.FilterRefIdeal.nD Cert.FilterRefIdeal.τ).loc Cert.FilterRefIdeal.main_arg2))
      (m ((c : Thread Cert.FilterRefIdeal.nD Cert.FilterRefIdeal.τ).loc Cert.FilterRefIdeal.main_arg3))
      (m ((c : Thread Cert.FilterRefIdeal.nD Cert.FilterRefIdeal.τ).loc Cert.FilterRefIdeal.main_arg4))
      (m ((c : Thread Cert.FilterRefIdeal.nD Cert.FilterRefIdeal.τ).loc Cert.FilterRefIdeal.main_arg5))

/-- The reference's result 1 as a term of its two filters. -/
theorem filter_result0 (m : (ℓ : Loc Cert.FilterRefIdeal.nD Cert.FilterRefIdeal.τ Cert.FilterRefIdeal.sig) → Buf (Elt Ideal) ℓ) (c : Dev Cert.FilterRefIdeal.nD) :
    res_out0 m c = REFt (FWD (filter_net m c)) (BWD (filter_net m c)) := rfl

/-- The reference's result 2 as a term of its two filters. -/
theorem filter_result1 (m : (ℓ : Loc Cert.FilterRefIdeal.nD Cert.FilterRefIdeal.τ Cert.FilterRefIdeal.sig) → Buf (Elt Ideal) ℓ) (c : Dev Cert.FilterRefIdeal.nD) :
    res_out1 m c = REFs (FWD (filter_net m c)) (BWD (filter_net m c)) := rfl

/-- Over the extended reals the kernel of the filter's network and its reference leave equal results. -/
theorem filter_algebraic : Cert.algebraic_FilterIdeal_FilterRefIdeal := by
  pair_intro
  · run_from Cert.FilterIdeal.Value.run m g
  · run_from Cert.FilterRefIdeal.Value.run m' g'
    · obtain ⟨h0, h1, h2, h3, h4, h5⟩ := hagree c
      refine (filter_result0 m' c).trans ?_
      rw [filter_net, h0, h1, h2, h3, h4, h5]
      exact (Cert.FilterIdeal.Value.taps_eq m c).symm
    · obtain ⟨h0, h1, h2, h3, h4, h5⟩ := hagree c
      refine (filter_result1 m' c).trans ?_
      rw [filter_net, h0, h1, h2, h3, h4, h5]
      exact (Cert.FilterIdeal.Value.scale_eq m c).symm

end Cert.Proof

end
-- ==== Proof.TailReference.lean ====
/- The output gate and projection of the Hyena operator, as plain host operations: what the reference program computes. -/
module

public import proofs.«01_k».proof.Proof.Gen.TailRefIdeal
public import Idealize.ShloMosaic.Lib.Pipeline.ValueKit

@[expose] public section

noncomputable section

open Idealize.ShloMosaic Idealize.ShloMosaic.TcCoe Idealize.SL.Sem

namespace Cert.TailRefIdeal.Value

open Cert.TailRefIdeal Cert.TailRefIdeal.Gen

/-- The reference's result as a function of its arguments: the long convolution's result, the two gates, the skip gain, the weights, their bias, the residual. -/
abbrev REF (A0 : FVec Ideal S4x16x512x1024 .f32) (A1 : FVec Ideal S4x8192x1024 .f32) (A2 : FVec Ideal S4x8192x1024
    .f32) (A3 : FVec Ideal S1x1024 .f32) (A4 : FVec Ideal S1x1024x1024 .f32) (A5 : FVec Ideal S1x1024 .f32) (A6 :
    FVec Ideal S4x8192x1024 .f32) : FVec Ideal S4x8192x1024 .f32 :=
  addf A6 (addf (Host.dotGeneral dot_S4x8192x1024_S1024x1024_S4x8192x1024_2_0_01_1_n_n none (mulf (addf (shapeCast _
    (transpose S4x64x16x8x1024 [0, 2, 1, 3, 4] (shapeCast _ A0 shapeCasts_S4x16x512x1024_S4x16x64x8x1024)
    transposes_S4x16x64x8x1024_S4x64x16x8x1024_0_2_1_3_4) shapeCasts_S4x64x16x8x1024_S4x8192x1024) (mulf A1
    (broadcastInDim S4x8192x1024 ![0, 1, 2] bcast_S1x1x1024_S4x8192x1024_0_1_2 (broadcastInDim S1x1x1024 ![2]
    bcast_S1024_S1x1x1024_2 (shapeCast _ A3 shapeCasts_S1x1024_S1024))))) A2) (shapeCast _ A4
    shapeCasts_S1x1024x1024_S1024x1024)) (broadcastInDim S4x8192x1024 ![0, 1, 2] bcast_S1x1x1024_S4x8192x1024_0_1_2
    (broadcastInDim S1x1x1024 ![2] bcast_S1024_S1x1x1024_2 (shapeCast _ A5 shapeCasts_S1x1024_S1024))))

end Cert.TailRefIdeal.Value

end
-- ==== Proof.Tail.lean ====
/- The output gate and projection of the Hyena operator: the kernel's result array is the reference's. -/
module

public import proofs.«01_k».proof.Proof.Gen.TailIdeal.Frame
public import proofs.«01_k».proof.Proof.TailReference

@[expose] public section

set_option maxRecDepth 16384

noncomputable section

open Idealize.ShloMosaic Idealize.ShloMosaic.TcCoe Idealize.SL.Sem
open Idealize.ShloMosaic.Pipeline (Dat)

namespace Cert.TailIdeal.Value

open Cert.TailIdeal Cert.TailIdeal.Gen

variable (m : (ℓ : Loc nD τ sig) → Buf (Elt Ideal) ℓ)

/-- Which blocks the windows hold at the point of batch and row block. -/
theorem idx : ∀ t : Fin cfg0.N, win0_0.index t = ![(t : ℕ) / 16, 0, (t : ℕ) % 16, 0] ∧ win0_1.index t = ![(t : ℕ) / 16, (t : ℕ) % 16, 0]
    ∧ win0_2.index t = ![(t : ℕ) / 16, (t : ℕ) % 16, 0] ∧ win0_3.index t = ![0, 0] ∧ win0_4.index t = ![0, 0] ∧ win0_5.index t = ![0, 0]
    ∧ win0_6.index t = ![(t : ℕ) / 16, (t : ℕ) % 16, 0] ∧ win0_7.index t = ![(t : ℕ) / 16, (t : ℕ) % 16, 0] :=
  (by decide +kernel : ∀ t : Fin grid0.N, _)

/-- A tile lies inside the block. -/
theorem inside (n : Fin 64) (a : Fin 4) : (![0, (n : ℕ) % 16, 8 * ((n : ℕ) / 16), 0] : Fin 4 → ℕ) a + S1x1x8x1024.size a ≤ S1x16x32x1024.size a := by
  revert n a; decide

/-- Tile `n` of the block: of group `n % 16`, the eight rows that begin at `8 (n / 16)`. -/
def tile (x0 : Vec Ideal S1x16x32x1024 .f32) (n : Fin 64) : FVec Ideal S8x1024 .f32 :=
  shapeCast S8x1024 (View.ld (Val := Elt Ideal) (e' := .f32) x0 (Rect.unit (s := S1x16x32x1024) ![0, (n : ℕ) % 16, 8 * ((n : ℕ) / 16), 0] S1x1x8x1024.size (inside n))) shapeCasts_S1x1x8x1024_S8x1024

/-- Two axes of extent one are dropped: the entry read. -/
theorem dropped_at (X : S1x1x8x1024.Idx → Ideal .f32) (a : Fin 8) (l : Fin 1024) :
    shapeCast S8x1024 X shapeCasts_S1x1x8x1024_S8x1024 (ix2 a l) = X (ix4 0 0 a l) := by
  pointwise []

/-- Entry `(a, l)` of the eight rows of group `p` that begin at `q`, as an entry of the block. -/
theorem rows_at (x0 : Vec Ideal S1x16x32x1024 .f32) (p q : ℕ) (hp : p < 16) (hq : q + 8 ≤ 32)
    (h : ∀ a : Fin 4, (![0, p, q, 0] : Fin 4 → ℕ) a + S1x1x8x1024.size a ≤ S1x16x32x1024.size a) (a : Fin 8) (l : Fin 1024) :
    shapeCast S8x1024 (View.ld (Val := Elt Ideal) (e' := .f32) x0 (Rect.unit (s := S1x16x32x1024) ![0, p, q, 0] S1x1x8x1024.size h)) shapeCasts_S1x1x8x1024_S8x1024 (ix2 a l)
      = x0 (ix4 0 ⟨p, hp⟩ ⟨q + (a : ℕ), by omega⟩ l) := by
  rw [dropped_at]
  refine congrArg x0 (funext fun b => Fin.ext ?_)
  fin_cases b
  · show 0 + 1 * 0 = 0; rfl
  · show p + 1 * 0 = p; omega
  · show q + 1 * (a : ℕ) = q + (a : ℕ); omega
  · show 0 + 1 * (l : ℕ) = (l : ℕ); omega

/-- Entry `(a, l)` of tile `n`, as an entry of the block. -/
theorem tile_at (x0 : Vec Ideal S1x16x32x1024 .f32) (n : Fin 64) (a : Fin 8) (l : Fin 1024) :
    tile x0 n (ix2 a l) = x0 (ix4 0 ⟨(n : ℕ) % 16, by omega⟩ ⟨8 * ((n : ℕ) / 16) + (a : ℕ), by omega⟩ l) :=
  rows_at x0 _ _ (by omega) (by omega) (inside n) a l

/-- What the kernel computes of the block's rows once they are in their own order: gate, product with the weights, bias. -/
abbrev gated (g : FVec Ideal S512x1024 .f32) (x1 : Vec Ideal S1x512x1024 .f32) (x3 : Vec Ideal S1x1024 .f32) (x2 : Vec Ideal S1x512x1024 .f32) (x4 : FVec Ideal S1024x1024 .bf16) (x5 : Vec Ideal S1x1024 .f32) : FVec Ideal S512x1024 .f32 :=
  addf (matmul (φ₂ := .bf16) dot_S512x1024_S1024x1024_S512x1024_1_0_0_1_n_n none (truncf .bf16 (mulf (addf g (mulf (shapeCast S512x1024 x1 shapeCasts_S1x512x1024_S512x1024)
    (broadcastTo S512x1024 (shapeCast S1x1024 x3 shapeCasts_S1x1024_S1x1024) broadcasts_S1x1024_S512x1024))) (shapeCast S512x1024 x2 shapeCasts_S1x512x1024_S512x1024)) bitsLt_bf16_f32)
    (shapeCast S1024x1024 x4 shapeCasts_S1024x1024_S1024x1024) (constant S512x1024 .f32 0x00000000#32)) (broadcastTo S512x1024 (shapeCast S1x1024 x5 shapeCasts_S1x1024_S1x1024) broadcasts_S1x1024_S512x1024)

/-- The tiles fill the rows of the stack. -/
theorem fills : Shape.Concatenates (List.replicate 64 S8x1024) S512x1024 0 := by
  decide +kernel

theorem fills' (x0 : Vec Ideal S1x16x32x1024 .f32) : Shape.Concatenates ((List.ofFn fun n : Fin 64 => (⟨S8x1024, tile x0 n⟩ : (s : Shape) × (s.Idx → Ideal .f32))).map (·.1)) S512x1024 0 := by
  rw [List.map_ofFn]; exact fills

/-- The block's rows in their own order: the tiles, one under the other. -/
def stack (x0 : Vec Ideal S1x16x32x1024 .f32) : FVec Ideal S512x1024 .f32 :=
  concatenate S512x1024 0 (List.ofFn fun n : Fin 64 => (⟨S8x1024, tile x0 n⟩ : (s : Shape) × (s.Idx → Ideal .f32))) (fills' x0)

/-- Row `r` of the stack is the block's: of group `(r / 8) % 16`, row `8 (r / 128) + r % 8`. -/
theorem stack_at (x0 : Vec Ideal S1x16x32x1024 .f32) (r : Fin 512) (l : Fin 1024) :
    stack x0 (ix2 r l) = x0 (ix4 0 ⟨(r : ℕ) / 8 % 16, by omega⟩ ⟨8 * ((r : ℕ) / 128) + (r : ℕ) % 8, by omega⟩ l) := by
  unfold stack
  rw [concatenate_ofFn_apply (0 : Fin S512x1024.rank) (tile x0) (fills' x0) rfl 8 rfl (ix2 r l) ⟨(r : ℕ) / 8, by omega⟩ rfl (ix2 ⟨(r : ℕ) % 8, by omega⟩ l) rfl
    (fun b hb => by fin_cases b; exacts [absurd rfl hb, rfl])]
  rw [tile_at]
  congr 1
  funext b; fin_cases b <;> first | rfl | (apply Fin.ext; show 8 * ((r : ℕ) / 8 / 16) + (r : ℕ) % 8 = 8 * ((r : ℕ) / 128) + (r : ℕ) % 8; omega)

set_option maxHeartbeats 6400000 in
/-- The kernel's result array is the reference's: the long convolution's result in its own order, gated, projected, with the residual. -/
theorem final (c : Dev nD) : (dats m 0 c).arrAt 7 (cfgs 0).N
    = Cert.TailRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  change k0_pay1 (gated (stack (iblk m c 0 t)) (iblk m c 1 t) (iblk m c 3 t) (iblk m c 2 t) (iblk m c 4 t) (iblk m c 5 t)) (iblk m c 6 t) y = _
  pointwise [k0_pay1, gated, stack_at, Cert.TailRefIdeal.Value.REF]
  blk_point [iblk, V, idx t]

end Cert.TailIdeal.Value

end
-- ==== Proof.TailClaim.lean ====
/- The claims about the output gate and projection of the Hyena operator: the reference runs, and the kernel's results are the reference's. -/
module

public import proofs.«01_k».proof.Defs
public import proofs.«01_k».proof.Proof.Tail
public import proofs.«01_k».proof.Proof.Gen.TailRefIdeal.Run
public import Idealize.ShloMosaic.Lib.Claim

@[expose] public section

set_option maxRecDepth 16384

noncomputable section

open Idealize.ShloMosaic Idealize.ShloMosaic.TcCoe Idealize.SL.Sem

namespace Cert.Proof

/-- The reference of the output gate and projection of the Hyena operator terminates and leaves its arguments as they were. -/
theorem tail_reference_frame : Cert.quiescent_TailRefIdeal := by
  intro m g _
  exact (θ_run Cert.TailRefIdeal.defs _ _).mono
    (fun r h => ⟨fun c => (h c).2, Idealize.ShloMosaic.sem_eq_zero_of_no_sems (by decide) r.2⟩)
    (Cert.TailRefIdeal.Value.run m g)

/-- Over the extended reals the kernel of the output gate and projection of the Hyena operator and its reference leave equal results. -/
theorem tail_algebraic : Cert.algebraic_TailIdeal_TailRefIdeal := by
  pair_intro
  · run_from Cert.TailIdeal.Gen.run_main m g
  · run_from Cert.TailRefIdeal.Value.run m' g'
    exact (Cert.TailIdeal.Value.final m c).symm

end Cert.Proof

end
-- ==== Proof.RouterReference.lean ====
/- The router: the normed tokens and the experts' probabilities, as plain host operations: what the reference program computes. -/
module

public import proofs.«01_k».proof.Proof.Gen.RouterRefIdeal
public import Idealize.ShloMosaic.Lib.Pipeline.ValueKit

@[expose] public section

noncomputable section

open Idealize.ShloMosaic Idealize.ShloMosaic.TcCoe Idealize.SL.Sem

namespace Cert.RouterRefIdeal.Value

open Cert.RouterRefIdeal Cert.RouterRefIdeal.Gen

/-- The reference's first result as a function of its arguments: the tokens, the two norm gains, the router's weights. -/
abbrev REFh (A0 : FVec Ideal S32768x1024 .f32) (A1 : FVec Ideal S2x1024 .f32) (A2 : FVec Ideal S2x1024x16 .f32) :
    FVec Ideal S32768x1024 .bf16 :=
  truncf .bf16 (mulf (mulf A0 (broadcastInDim S32768x1024 ![0, 1] bcast_S32768x1_S32768x1024_0_1 (Host.rsqrt (addf
    (Host.divf (broadcastInDim S32768x1 ![0] bcast_S32768_S32768x1_0 (Host.reduceAdd (mulf A0 A0) (constant S_ .f32
    0x00000000#32) reducesTo_S32768x1024_S32768_d1 h_S_)) (broadcastInDim S32768x1 ![] bcast_S_S32768x1 (constant S_
    .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1]
    bcast_S1024_S1x1024_1 (shapeCast _ (extractStridedSlice S1x1024 ![0, 0] A1 slices_S2x1024_S1x1024_0_0)
    shapeCasts_S1x1024_S1024)))) bitsLt_bf16_f32

/-- The reference's second result as a function of its arguments: the tokens, the two norm gains, the router's weights. -/
abbrev REFp (A0 : FVec Ideal S32768x1024 .f32) (A1 : FVec Ideal S2x1024 .f32) (A2 : FVec Ideal S2x1024x16 .f32) :
    FVec Ideal S16x32768 .f32 :=
  transpose S16x32768 [1, 0] (Host.divf (Host.exp (subf (Host.dotGeneral
    dot_S32768x1024_S1024x16_S32768x16_1_0_0_1_n_n none (mulf (mulf A0 (broadcastInDim S32768x1024 ![0, 1]
    bcast_S32768x1_S32768x1024_0_1 (Host.rsqrt (addf (Host.divf (broadcastInDim S32768x1 ![0] bcast_S32768_S32768x1_0
    (Host.reduceAdd (mulf A0 A0) (constant S_ .f32 0x00000000#32) reducesTo_S32768x1024_S32768_d1 h_S_))
    (broadcastInDim S32768x1 ![] bcast_S_S32768x1 (constant S_ .f32 0x44800000#32))) (broadcastInDim S32768x1 ![]
    bcast_S_S32768x1 (constant S_ .f32 0x358637BD#32)))))) (broadcastInDim S32768x1024 ![0, 1]
    bcast_S1x1024_S32768x1024_0_1 (broadcastInDim S1x1024 ![1] bcast_S1024_S1x1024_1 (shapeCast _
    (extractStridedSlice S1x1024 ![0, 0] A1 slices_S2x1024_S1x1024_0_0) shapeCasts_S1x1024_S1024)))) (shapeCast _
    (extractStridedSlice S1x1024x16 ![0, 0, 0] A2 slices_S2x1024x16_S1x1024x16_0_0_0)
    shapeCasts_S1x1024x16_S1024x16)) (broadcastInDim S32768x16 ![0, 1] bcast_S32768x1_S32768x16_0_1 (broadcastInDim
    S32768x1 ![0] bcast_S32768_S32768x1_0 (maximumf (broadcastInDim S32768 ![] bcast_S_S32768 (constant S_ .f32
    0xFF800000#32)) (Host.reduce FloatOps.maximumf (Host.dotGeneral dot_S32768x1024_S1024x16_S32768x16_1_0_0_1_n_n
    none (mulf (mulf A0 (broadcastInDim S32768x1024 ![0, 1] bcast_S32768x1_S32768x1024_0_1 (Host.rsqrt (addf
    (Host.divf (broadcastInDim S32768x1 ![0] bcast_S32768_S32768x1_0 (Host.reduceAdd (mulf A0 A0) (constant S_ .f32
    0x00000000#32) reducesTo_S32768x1024_S32768_d1 h_S_)) (broadcastInDim S32768x1 ![] bcast_S_S32768x1 (constant S_
    .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1]
    bcast_S1024_S1x1024_1 (shapeCast _ (extractStridedSlice S1x1024 ![0, 0] A1 slices_S2x1024_S1x1024_0_0)
    shapeCasts_S1x1024_S1024)))) (shapeCast _ (extractStridedSlice S1x1024x16 ![0, 0, 0] A2
    slices_S2x1024x16_S1x1024x16_0_0_0) shapeCasts_S1x1024x16_S1024x16)) (constant S_ .f32 0xFF800000#32)
    reducesTo_S32768x16_S32768_d1 h_S_)))))) (broadcastInDim S32768x16 ![0, 1] bcast_S32768x1_S32768x16_0_1
    (broadcastInDim S32768x1 ![0] bcast_S32768_S32768x1_0 (Host.reduceAdd (Host.exp (subf (Host.dotGeneral
    dot_S32768x1024_S1024x16_S32768x16_1_0_0_1_n_n none (mulf (mulf A0 (broadcastInDim S32768x1024 ![0, 1]
    bcast_S32768x1_S32768x1024_0_1 (Host.rsqrt (addf (Host.divf (broadcastInDim S32768x1 ![0] bcast_S32768_S32768x1_0
    (Host.reduceAdd (mulf A0 A0) (constant S_ .f32 0x00000000#32) reducesTo_S32768x1024_S32768_d1 h_S_))
    (broadcastInDim S32768x1 ![] bcast_S_S32768x1 (constant S_ .f32 0x44800000#32))) (broadcastInDim S32768x1 ![]
    bcast_S_S32768x1 (constant S_ .f32 0x358637BD#32)))))) (broadcastInDim S32768x1024 ![0, 1]
    bcast_S1x1024_S32768x1024_0_1 (broadcastInDim S1x1024 ![1] bcast_S1024_S1x1024_1 (shapeCast _
    (extractStridedSlice S1x1024 ![0, 0] A1 slices_S2x1024_S1x1024_0_0) shapeCasts_S1x1024_S1024)))) (shapeCast _
    (extractStridedSlice S1x1024x16 ![0, 0, 0] A2 slices_S2x1024x16_S1x1024x16_0_0_0)
    shapeCasts_S1x1024x16_S1024x16)) (broadcastInDim S32768x16 ![0, 1] bcast_S32768x1_S32768x16_0_1 (broadcastInDim
    S32768x1 ![0] bcast_S32768_S32768x1_0 (maximumf (broadcastInDim S32768 ![] bcast_S_S32768 (constant S_ .f32
    0xFF800000#32)) (Host.reduce FloatOps.maximumf (Host.dotGeneral dot_S32768x1024_S1024x16_S32768x16_1_0_0_1_n_n
    none (mulf (mulf A0 (broadcastInDim S32768x1024 ![0, 1] bcast_S32768x1_S32768x1024_0_1 (Host.rsqrt (addf
    (Host.divf (broadcastInDim S32768x1 ![0] bcast_S32768_S32768x1_0 (Host.reduceAdd (mulf A0 A0) (constant S_ .f32
    0x00000000#32) reducesTo_S32768x1024_S32768_d1 h_S_)) (broadcastInDim S32768x1 ![] bcast_S_S32768x1 (constant S_
    .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1]
    bcast_S1024_S1x1024_1 (shapeCast _ (extractStridedSlice S1x1024 ![0, 0] A1 slices_S2x1024_S1x1024_0_0)
    shapeCasts_S1x1024_S1024)))) (shapeCast _ (extractStridedSlice S1x1024x16 ![0, 0, 0] A2
    slices_S2x1024x16_S1x1024x16_0_0_0) shapeCasts_S1x1024x16_S1024x16)) (constant S_ .f32 0xFF800000#32)
    reducesTo_S32768x16_S32768_d1 h_S_)))))) (constant S_ .f32 0x00000000#32) reducesTo_S32768x16_S32768_d1 h_S_))))
    transposes_S32768x16_S16x32768_1_0

end Cert.RouterRefIdeal.Value

end
-- ==== Proof.Router.lean ====
/- The router: the kernel's two result arrays are the reference's. -/
module

public import proofs.«01_k».proof.Proof.Gen.RouterIdeal.Frame
public import proofs.«01_k».proof.Proof.RouterReference

@[expose] public section

set_option maxRecDepth 16384

noncomputable section

open Idealize.ShloMosaic Idealize.ShloMosaic.TcCoe Idealize.SL.Sem
open Idealize.ShloMosaic.Pipeline (Dat)

namespace Cert.RouterIdeal.Value

open Cert.RouterIdeal Cert.RouterIdeal.Gen

variable (m : (ℓ : Loc nD τ sig) → Buf (Elt Ideal) ℓ)

/-- The block each window holds at each grid point. -/
theorem idx : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

/-- A maximum folded from `b` is not changed by one more maximum with `b`. -/
theorem max_init_fold {n : ℕ} (b : EReal) (f : Fin n → EReal) :
    max b (Finset.fold max b f Finset.univ) = Finset.fold max b f Finset.univ :=
  max_eq_right ((Finset.le_fold_max _).mpr (Or.inl le_rfl))

/-- The first result array after the run, the normed tokens, is the reference's. -/
theorem final_tokens (c : Dev nD) : (dats m 0 c).arrAt 3 (cfgs 0).N
    = Cert.RouterRefIdeal.Value.REFh (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, k0_pay2, Cert.RouterRefIdeal.Value.REFh]
  blk_point [iblk, V, idx t]

/-- The second result array after the run, the probabilities by expert, is the reference's. -/
theorem final_probs (c : Dev nD) : (dats m 0 c).arrAt 4 (cfgs 0).N
    = Cert.RouterRefIdeal.Value.REFp (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, k0_pay3, Cert.RouterRefIdeal.Value.REFp]
  simp only [max_init_fold]
  blk_point [iblk, V, idx t]

end Cert.RouterIdeal.Value

end
-- ==== Proof.RouterClaim.lean ====
/- The claims about the router: the reference runs, and the kernel's results are the reference's. -/
module

public import proofs.«01_k».proof.Defs
public import proofs.«01_k».proof.Proof.Router
public import proofs.«01_k».proof.Proof.Gen.RouterRefIdeal.Run
public import Idealize.ShloMosaic.Lib.Claim

@[expose] public section

set_option maxRecDepth 100000

noncomputable section

open Idealize.ShloMosaic Idealize.ShloMosaic.TcCoe Idealize.SL.Sem

namespace Cert.Proof

/-- The reference of the router terminates and leaves its arguments as they were. -/
theorem router_reference_frame : Cert.quiescent_RouterRefIdeal := by
  intro m g _
  exact (θ_run Cert.RouterRefIdeal.defs _ _).mono
    (fun r h => ⟨fun c => (h c).2.2, Idealize.ShloMosaic.sem_eq_zero_of_no_sems (by decide) r.2⟩)
    (Cert.RouterRefIdeal.Value.run m g)

/-- Over the extended reals the kernel of the router and its reference leave equal results. -/
theorem router_algebraic : Cert.algebraic_RouterIdeal_RouterRefIdeal := by
  pair_intro
  · run_from Cert.RouterIdeal.Gen.run_main m g
  · run_from Cert.RouterRefIdeal.Value.run m' g'
    · exact (Cert.RouterIdeal.Value.final_tokens m c).symm
    · obtain ⟨h0, h1, h2⟩ := hagree c
      refine (show Cert.RouterRefIdeal.Value.res_out1 m' c = Cert.RouterRefIdeal.Value.REFp
        (m' ((c : Thread Cert.RouterRefIdeal.nD Cert.RouterRefIdeal.τ).loc Cert.RouterRefIdeal.main_arg0))
        (m' ((c : Thread Cert.RouterRefIdeal.nD Cert.RouterRefIdeal.τ).loc Cert.RouterRefIdeal.main_arg1))
        (m' ((c : Thread Cert.RouterRefIdeal.nD Cert.RouterRefIdeal.τ).loc Cert.RouterRefIdeal.main_arg2)) from rfl).trans ?_
      rw [h0, h1, h2]
      exact (Cert.RouterIdeal.Value.final_probs m c).symm

end Cert.Proof

end
-- ==== Proof.lean ====
/- The claims of this directory, assembled: for each call of the kernel its three frames, that its ideal form is the
   same program, and that over the extended reals its results are the reference's. The equations are proved in one
   module per call. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.FfnClaim
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.GluClaim
public import proofs.«01_k».proof.Proof.Gen.Conf
public import proofs.«01_k».proof.Proof.Gen.Conf.Skeleton
public import proofs.«01_k».proof.Proof.Gen.Conf.Loops
public import proofs.«01_k».proof.Proof.Gen.Conf.Launch
public import proofs.«01_k».proof.Proof.Gen.Conf.Points
public import proofs.«01_k».proof.Proof.Gen.Conf.Frame
public import proofs.«01_k».proof.Proof.Gen.ConfIdeal
public import proofs.«01_k».proof.Proof.Gen.ConfIdeal.Skeleton
public import proofs.«01_k».proof.Proof.Gen.ConfIdeal.Loops
public import proofs.«01_k».proof.Proof.Gen.ConfIdeal.Launch
public import proofs.«01_k».proof.Proof.Gen.ConfIdeal.Points
public import proofs.«01_k».proof.Proof.Gen.ConfIdeal.Frame
public import proofs.«01_k».proof.Proof.Gen.ConfIdeal.Value
public import proofs.«01_k».proof.Proof.Gen.ConfRefIdeal
public import proofs.«01_k».proof.Proof.Gen.ConfRefIdeal.Run
public import proofs.«01_k».proof.Proof.ConfClaim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.ProjClaim
public import proofs.«01_k».proof.Proof.Gen.Short
public import proofs.«01_k».proof.Proof.Gen.Short.Skeleton
public import proofs.«01_k».proof.Proof.Gen.Short.Launch
public import proofs.«01_k».proof.Proof.Gen.Short.Points
public import proofs.«01_k».proof.Proof.Gen.Short.Frame
public import proofs.«01_k».proof.Proof.Gen.ShortIdeal
public import proofs.«01_k».proof.Proof.Gen.ShortIdeal.Skeleton
public import proofs.«01_k».proof.Proof.Gen.ShortIdeal.Launch
public import proofs.«01_k».proof.Proof.Gen.ShortIdeal.Points
public import proofs.«01_k».proof.Proof.Gen.ShortIdeal.Frame
public import proofs.«01_k».proof.Proof.Gen.ShortIdeal.Value
public import proofs.«01_k».proof.Proof.Gen.ShortRefIdeal
public import proofs.«01_k».proof.Proof.Gen.ShortRefIdeal.Run
public import proofs.«01_k».proof.Proof.ShortClaim
public import proofs.«01_k».proof.Proof.Gen.Filter
public import proofs.«01_k».proof.Proof.Gen.Filter.Skeleton
public import proofs.«01_k».proof.Proof.Gen.Filter.Launch
public import proofs.«01_k».proof.Proof.Gen.Filter.Points
public import proofs.«01_k».proof.Proof.Gen.Filter.Frame
public import proofs.«01_k».proof.Proof.Gen.FilterIdeal
public import proofs.«01_k».proof.Proof.Gen.FilterIdeal.Skeleton
public import proofs.«01_k».proof.Proof.Gen.FilterIdeal.Launch
public import proofs.«01_k».proof.Proof.Gen.FilterIdeal.Points
public import proofs.«01_k».proof.Proof.Gen.FilterIdeal.Frame
public import proofs.«01_k».proof.Proof.Gen.FilterRefIdeal
public import proofs.«01_k».proof.Proof.Gen.FilterRefIdeal.Run
public import proofs.«01_k».proof.Proof.FilterClaim
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.TailClaim
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.RouterClaim
public import Idealize.ShloMosaic.Adequacy
public import Idealize.ShloMosaic.Init

@[expose] public section

noncomputable section

namespace Cert.Proof

open Idealize.ShloMosaic Idealize.SL.Sem

/-- The kernel of the experts' feed-forward layer terminates, at the machine's floats, and leaves its arguments as they were. -/
theorem ffn_frame : Cert.quiescent_Ffn := fun m g _ => Cert.Ffn.Gen.frame m g

/-- The same over the extended reals. -/
theorem ffn_ideal_frame : Cert.quiescent_FfnIdeal := fun m g _ => Cert.FfnIdeal.Gen.frame m g

/-- Its two forms are the same program: nothing is rewritten between them. -/
theorem ffn_preserves : Cert.preserves_Ffn_FfnIdeal := trivial

/-- The kernel of the norm and gated linear unit terminates, at the machine's floats, and leaves its arguments as they were. -/
theorem glu_frame : Cert.quiescent_Glu := fun m g _ => Cert.Glu.Gen.frame m g

/-- The same over the extended reals. -/
theorem glu_ideal_frame : Cert.quiescent_GluIdeal := fun m g _ => Cert.GluIdeal.Gen.frame m g

/-- Its two forms are the same program: nothing is rewritten between them. -/
theorem glu_preserves : Cert.preserves_Glu_GluIdeal := trivial

/-- The kernel of the depthwise convolution, its norm and second projection terminates, at the machine's floats, and leaves its arguments as they were. -/
theorem conf_frame : Cert.quiescent_Conf := fun m g _ => Cert.Conf.Gen.frame m g

/-- The same over the extended reals. -/
theorem conf_ideal_frame : Cert.quiescent_ConfIdeal := fun m g _ => Cert.ConfIdeal.Gen.frame m g

/-- Its two forms are the same program: nothing is rewritten between them. -/
theorem conf_preserves : Cert.preserves_Conf_ConfIdeal := trivial

/-- The kernel of the projection into the Hyena operator terminates, at the machine's floats, and leaves its arguments as they were. -/
theorem proj_frame : Cert.quiescent_Proj := fun m g _ => Cert.Proj.Gen.frame m g

/-- The same over the extended reals. -/
theorem proj_ideal_frame : Cert.quiescent_ProjIdeal := fun m g _ => Cert.ProjIdeal.Gen.frame m g

/-- Its two forms are the same program: nothing is rewritten between them. -/
theorem proj_preserves : Cert.preserves_Proj_ProjIdeal := trivial

/-- The kernel of the short convolution and its gate terminates, at the machine's floats, and leaves its arguments as they were. -/
theorem short_frame : Cert.quiescent_Short := fun m g _ => Cert.Short.Gen.frame m g

/-- The same over the extended reals. -/
theorem short_ideal_frame : Cert.quiescent_ShortIdeal := fun m g _ => Cert.ShortIdeal.Gen.frame m g

/-- Its two forms are the same program: nothing is rewritten between them. -/
theorem short_preserves : Cert.preserves_Short_ShortIdeal := trivial

/-- The kernel of the network of the Hyena operator's filter terminates, at the machine's floats, and leaves its arguments as they were. -/
theorem filter_frame : Cert.quiescent_Filter := fun m g _ => Cert.Filter.Gen.frame m g

/-- The same over the extended reals. -/
theorem filter_ideal_frame : Cert.quiescent_FilterIdeal := fun m g _ => Cert.FilterIdeal.Gen.frame m g

/-- Its two forms are the same program: nothing is rewritten between them. -/
theorem filter_preserves : Cert.preserves_Filter_FilterIdeal := trivial

/-- The kernel of the output gate and projection of the Hyena operator terminates, at the machine's floats, and leaves its arguments as they were. -/
theorem tail_frame : Cert.quiescent_Tail := fun m g _ => Cert.Tail.Gen.frame m g

/-- The same over the extended reals. -/
theorem tail_ideal_frame : Cert.quiescent_TailIdeal := fun m g _ => Cert.TailIdeal.Gen.frame m g

/-- Its two forms are the same program: nothing is rewritten between them. -/
theorem tail_preserves : Cert.preserves_Tail_TailIdeal := trivial

/-- The kernel of the router terminates, at the machine's floats, and leaves its arguments as they were. -/
theorem router_frame : Cert.quiescent_Router := fun m g _ => Cert.Router.Gen.frame m g

/-- The same over the extended reals. -/
theorem router_ideal_frame : Cert.quiescent_RouterIdeal := fun m g _ => Cert.RouterIdeal.Gen.frame m g

/-- Its two forms are the same program: nothing is rewritten between them. -/
theorem router_preserves : Cert.preserves_Router_RouterIdeal := trivial

/-- Every claim of this directory. -/
theorem claim : Cert.Claim := ⟨Cert.Ffn.Gen.facts, Cert.FfnIdeal.Gen.facts, Cert.FfnRefIdeal.Gen.facts, Cert.Glu.Gen.facts, Cert.GluIdeal.Gen.facts, Cert.GluRefIdeal.Gen.facts, Cert.Conf.Gen.facts, Cert.ConfIdeal.Gen.facts, Cert.ConfRefIdeal.Gen.facts, Cert.Proj.Gen.facts, Cert.ProjIdeal.Gen.facts, Cert.ProjRefIdeal.Gen.facts, Cert.Short.Gen.facts, Cert.ShortIdeal.Gen.facts, Cert.ShortRefIdeal.Gen.facts, Cert.Filter.Gen.facts, Cert.FilterIdeal.Gen.facts, Cert.FilterRefIdeal.Gen.facts, Cert.Tail.Gen.facts, Cert.TailIdeal.Gen.facts, Cert.TailRefIdeal.Gen.facts, Cert.Router.Gen.facts, Cert.RouterIdeal.Gen.facts, Cert.RouterRefIdeal.Gen.facts,
  ffn_frame, ffn_ideal_frame, ffn_reference_frame,
  glu_frame, glu_ideal_frame, glu_reference_frame,
  conf_frame, conf_ideal_frame, conf_reference_frame,
  proj_frame, proj_ideal_frame, proj_reference_frame,
  short_frame, short_ideal_frame, short_reference_frame,
  filter_frame, filter_ideal_frame, filter_reference_frame,
  tail_frame, tail_ideal_frame, tail_reference_frame,
  router_frame, router_ideal_frame, router_reference_frame,
  ffn_preserves, ffn_algebraic,
  glu_preserves, glu_algebraic,
  conf_preserves, conf_algebraic,
  proj_preserves, proj_algebraic,
  short_preserves, short_algebraic,
  filter_preserves, filter_algebraic,
  tail_preserves, tail_algebraic,
  router_preserves, router_algebraic⟩

end Cert.Proof

end
